-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_eighth_is_one_frequency [hPre_eighth_is_one_frequency : Cert.Pre_eighth_is_one_frequency.Facts] (m : (ℓ : Loc Cert.KernelIdeal.nD Cert.KernelIdeal.τ Cert.KernelIdeal.sig) → Buf (Elt Ideal) ℓ) : Prop :=
  ∀ c : Dev Cert.KernelIdeal.nD,
    (Cert.Pre_eighth_is_one_frequency.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_eighth_is_one_frequency [hPre_eighth_is_one_frequency : Cert.Pre_eighth_is_one_frequency.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_eighth_is_one_frequency.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_eighth_is_one_frequency [hKernelIdeal : Cert.KernelIdeal.Facts] [hPre_eighth_is_one_frequency : Cert.Pre_eighth_is_one_frequency.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_eighth_is_one_frequency m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_eighth_is_one_frequency [hReferenceIdeal : Cert.ReferenceIdeal.Facts] [hPre_eighth_is_one_frequency : Cert.Pre_eighth_is_one_frequency.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_eighth_is_one_frequency m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "rad" .f32 0x39490FDB#32 ((Real.pi * 16384⁻¹ : ℝ) : EReal)

def algebraic_KernelIdeal_ReferenceIdeal_pre_eighth_is_one_frequency [hKernelIdeal : Cert.KernelIdeal.Facts] [hReferenceIdeal : Cert.ReferenceIdeal.Facts] [hPre_eighth_is_one_frequency : Cert.Pre_eighth_is_one_frequency.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_eighth_is_one_frequency m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_eighth_is_one_frequency : Cert.Pre_eighth_is_one_frequency.Facts),
    quiescent_Kernel (hKernel := hKernel)
    ∧ quiescent_KernelIdeal (hKernelIdeal := hKernelIdeal)
    ∧ quiescent_KernelIdeal_pre_eighth_is_one_frequency (hKernelIdeal := hKernelIdeal) (hPre_eighth_is_one_frequency := hPre_eighth_is_one_frequency)
    ∧ quiescent_ReferenceIdeal (hReferenceIdeal := hReferenceIdeal)
    ∧ quiescent_ReferenceIdeal_pre_eighth_is_one_frequency (hReferenceIdeal := hReferenceIdeal) (hPre_eighth_is_one_frequency := hPre_eighth_is_one_frequency)
    ∧ preserves_Kernel_KernelIdeal
    ∧ algebraic_KernelIdeal_ReferenceIdeal_pre_eighth_is_one_frequency (hKernelIdeal := hKernelIdeal) (hReferenceIdeal := hReferenceIdeal) (hPre_eighth_is_one_frequency := hPre_eighth_is_one_frequency)
-- ==== Pre_eighth_is_one_frequency.lean ====
abbrev S128x32768x1 : Shape := ⟨3, ![128, 32768, 1]⟩
abbrev S128x32768 : Shape := ⟨2, ![128, 32768]⟩
abbrev S_ : Shape := ⟨0, ![]⟩
abbrev S32768x32768 : Shape := ⟨2, ![32768, 32768]⟩
abbrev S128x8 : Shape := ⟨2, ![128, 8]⟩
abbrev S128x16385 : Shape := ⟨2, ![128, 16385]⟩
abbrev S128x1 : Shape := ⟨2, ![128, 1]⟩
abbrev S128 : Shape := ⟨1, ![128]⟩

class Facts : Prop where
  shapeCasts_S128x32768x1_S128x32768 : S128x32768x1.ShapeCasts S128x32768
  bcast_S_S32768x32768 : S_.BroadcastsInDim S32768x32768 (![] : Fin 0 → Fin S32768x32768.rank)
  sliceFits_S128x32768_S128x8 : S128x32768.Slices (fun _ => 0) S128x8
  slices_S128x32768_S128x16385_0_0 : S128x32768.Slices ![0, 0] S128x16385
  slices_S128x8_S128x1_0_7 : S128x8.Slices ![0, 7] S128x1
  bcast_S128x1_S128x16385_0_1 : S128x1.BroadcastsInDim S128x16385 (![0, 1] : Fin 2 → Fin S128x16385.rank)
  natLt_1_32 : 1 < 32
  reducesTo_S128x16385_S128_d1 : S128x16385.ReducesTo [1] S128
  h_S_ : 0 < S_.numel
  bcast_S_S128 : S_.BroadcastsInDim S128 (![] : Fin 0 → Fin S128.rank)
  reducesTo_S128_S_d0 : S128.ReducesTo [0] S_
  dot_S128x32768_S32768x32768_S128x32768_1_0_0_1_n_n_wf : DotDims.WF S128x32768 S32768x32768 S128x32768 [1] [0] [0] [1] [] []

variable [Facts]

def dot_S128x32768_S32768x32768_S128x32768_1_0_0_1_n_n : DotDims S128x32768 S32768x32768 S128x32768 where
  lhsContracting := [1]
  rhsContracting := [0]
  lhsNonContracting := [0]
  rhsNonContracting := [1]
  lhsBatch := []
  rhsBatch := []
  wf := dot_S128x32768_S32768x32768_S128x32768_1_0_0_1_n_n_wf
def fn_part3 {F : FTy → Type} [FloatOps F] (main_v52 : IVec S128 32) : IVec S_ 1 :=
  let main_c_15 : IVec S_ 32 := constantI S_ 32 1#32
  let main_v53 : IVec S128 32 := broadcastInDim S128 ![] bcast_S_S128 main_c_15
  let main_v54 : IVec S128 1 := cmpi .sle main_v52 main_v53
  let main_c_16 : IVec S_ 1 := constantI S_ 1 1#1
  let main_v55 : IVec S_ 1 := (fun x v => Host.reduce IntOp.andi x v reducesTo_S128_S_d0 h_S_) main_v54 main_c_16
  main_v55

def fn_part2 {F : FTy → Type} [FloatOps F] (main_v0 : FVec F S128x32768 .f32) (main_v12 : FVec F S32768x32768 .f32) (main_v27 : FVec F S128x32768 .f32) (main_v29 : FVec F S_ .f32) (main_v32 : IVec S32768x32768 32) (main_c_12 : IVec S_ 32) : IVec S_ 1 :=
  let main_v33 : IVec S32768x32768 32 := broadcastInDim S32768x32768 ![] bcast_S_S32768x32768 main_c_12
  let main_v34 : IVec S32768x32768 32 := andi main_v32 main_v33
  let main_v35 : FVec F S32768x32768 .f32 := sitofp .f32 main_v34
  let main_v36 : FVec F S32768x32768 .f32 := broadcastInDim S32768x32768 ![] bcast_S_S32768x32768 main_v29
  let main_v37 : FVec F S32768x32768 .f32 := mulf main_v36 main_v35
  let main_cst_13 : FVec F S_ .f32 := constant S_ .f32 0x47000000#32
  let main_v38 : FVec F S32768x32768 .f32 := broadcastInDim S32768x32768 ![] bcast_S_S32768x32768 main_cst_13
  let main_v39 : FVec F S32768x32768 .f32 := Host.divf main_v37 main_v38
  let main_v40 : FVec F S32768x32768 .f32 := Host.sin main_v39
  let main_v41 : FVec F S32768x32768 .f32 := mulf main_v12 main_v40
  let main_v42 : FVec F S128x32768 .f32 := (fun l r => Host.dotGeneral dot_S128x32768_S32768x32768_S128x32768_1_0_0_1_n_n none l r) main_v0 main_v41
  let main_v43 : FVec F S128x32768 .f32 := mulf main_v27 main_v27
  let main_v44 : FVec F S128x32768 .f32 := mulf main_v42 main_v42
  let main_v45 : FVec F S128x32768 .f32 := addf main_v43 main_v44
  let main_v46 : FVec F S128x32768 .f32 := Host.sqrt main_v45
  let main_values : FVec F S128x8 .f32 := (fun x => (Host.topK S128x8 1 (FloatOps.cmpfTotal .gt) x sliceFits_S128x32768_S128x8).1) main_v46
  let main_indices : IVec S128x8 32 := (fun x => (Host.topK S128x8 1 (FloatOps.cmpfTotal .gt) x sliceFits_S128x32768_S128x8).2) main_v46
  let main_v47 : FVec F S128x16385 .f32 := (extractStridedSlice S128x16385 ![0, 0] · slices_S128x32768_S128x16385_0_0) main_v46
  let main_v48 : FVec F S128x1 .f32 := (extractStridedSlice S128x1 ![0, 7] · slices_S128x8_S128x1_0_7) main_values
  let main_v49 : FVec F S128x16385 .f32 := broadcastInDim S128x16385 ![0, 1] bcast_S128x1_S128x16385_0_1 main_v48
  let main_v50 : IVec S128x16385 1 := cmpf .oeq main_v47 main_v49
  let main_v51 : IVec S128x16385 32 := (extui 32 · natLt_1_32) main_v50
  let main_c_14 : IVec S_ 32 := constantI S_ 32 0#32
  let main_v52 : IVec S128 32 := (fun x v => Host.reduce IntOp.addi x v reducesTo_S128x16385_S128_d1 h_S_) main_v51 main_c_14
  fn_part3 (F := F) main_v52

def fn_part1 {F : FTy → Type} [FloatOps F] (main_v0 : FVec F S128x32768 .f32) (main_v12 : FVec F S32768x32768 .f32) (main_v14 : FVec F S_ .f32) : IVec S_ 1 :=
  let main_v15 : IVec S32768x32768 32 := iotaInDim S32768x32768 32 0
  let main_v16 : IVec S32768x32768 32 := iotaInDim S32768x32768 32 1
  let main_v17 : IVec S32768x32768 32 := muli main_v15 main_v16
  let main_c : IVec S_ 32 := constantI S_ 32 32767#32
  let main_v18 : IVec S32768x32768 32 := broadcastInDim S32768x32768 ![] bcast_S_S32768x32768 main_c
  let main_v19 : IVec S32768x32768 32 := andi main_v17 main_v18
  let main_v20 : FVec F S32768x32768 .f32 := sitofp .f32 main_v19
  let main_v21 : FVec F S32768x32768 .f32 := broadcastInDim S32768x32768 ![] bcast_S_S32768x32768 main_v14
  let main_v22 : FVec F S32768x32768 .f32 := mulf main_v21 main_v20
  let main_cst_8 : FVec F S_ .f32 := constant S_ .f32 0x47000000#32
  let main_v23 : FVec F S32768x32768 .f32 := broadcastInDim S32768x32768 ![] bcast_S_S32768x32768 main_cst_8
  let main_v24 : FVec F S32768x32768 .f32 := Host.divf main_v22 main_v23
  let main_v25 : FVec F S32768x32768 .f32 := Host.cos main_v24
  let main_v26 : FVec F S32768x32768 .f32 := mulf main_v12 main_v25
  let main_v27 : FVec F S128x32768 .f32 := (fun l r => Host.dotGeneral dot_S128x32768_S32768x32768_S128x32768_1_0_0_1_n_n none l r) main_v0 main_v26
  let main_cst_9 : FVec F S_ .f32 := constant S_ .f32 0x00000000#32
  let main_cst_10 : FVec F S_ .f32 := constant S_ .f32 0xBF800000#32
  let main_v28 : FVec F S_ .f32 := Host.atan2 main_cst_9 main_cst_10
  let main_cst_11 : FVec F S_ .f32 := constant S_ .f32 0x40000000#32
  let main_v29 : FVec F S_ .f32 := mulf main_cst_11 main_v28
  let main_v30 : IVec S32768x32768 32 := iotaInDim S32768x32768 32 0
  let main_v31 : IVec S32768x32768 32 := iotaInDim S32768x32768 32 1
  let main_v32 : IVec S32768x32768 32 := muli main_v30 main_v31
  let main_c_12 : IVec S_ 32 := constantI S_ 32 32767#32
  fn_part2 (F := F) main_v0 main_v12 main_v27 main_v29 main_v32 main_c_12

def fn {F : FTy → Type} [FloatOps F] (main_arg0 : FVec F S128x32768x1 .f32) : IVec S_ 1 :=
  let main_v0 : FVec F S128x32768 .f32 := shapeCast S128x32768 main_arg0 shapeCasts_S128x32768x1_S128x32768
  let main_cst : FVec F S_ .f32 := constant S_ .f32 0x00000000#32
  let main_cst_0 : FVec F S_ .f32 := constant S_ .f32 0xBF800000#32
  let main_v1 : FVec F S_ .f32 := Host.atan2 main_cst main_cst_0
  let main_cst_1 : FVec F S_ .f32 := constant S_ .f32 0x40000000#32
  let main_v2 : FVec F S_ .f32 := mulf main_cst_1 main_v1
  let main_v3 : FVec F S32768x32768 .f32 := sitofp .f32 (iotaInDim S32768x32768 32 0)
  let main_v4 : FVec F S32768x32768 .f32 := broadcastInDim S32768x32768 ![] bcast_S_S32768x32768 main_v2
  let main_v5 : FVec F S32768x32768 .f32 := mulf main_v4 main_v3
  let main_cst_2 : FVec F S_ .f32 := constant S_ .f32 0x47000000#32
  let main_v6 : FVec F S32768x32768 .f32 := broadcastInDim S32768x32768 ![] bcast_S_S32768x32768 main_cst_2
  let main_v7 : FVec F S32768x32768 .f32 := Host.divf main_v5 main_v6
  let main_v8 : FVec F S32768x32768 .f32 := Host.cos main_v7
  let main_cst_3 : FVec F S_ .f32 := constant S_ .f32 0x3F800000#32
  let main_v9 : FVec F S32768x32768 .f32 := broadcastInDim S32768x32768 ![] bcast_S_S32768x32768 main_cst_3
  let main_v10 : FVec F S32768x32768 .f32 := subf main_v9 main_v8
  let main_cst_4 : FVec F S_ .f32 := constant S_ .f32 0x3F000000#32
  let main_v11 : FVec F S32768x32768 .f32 := broadcastInDim S32768x32768 ![] bcast_S_S32768x32768 main_cst_4
  let main_v12 : FVec F S32768x32768 .f32 := mulf main_v11 main_v10
  let main_cst_5 : FVec F S_ .f32 := constant S_ .f32 0x00000000#32
  let main_cst_6 : FVec F S_ .f32 := constant S_ .f32 0xBF800000#32
  let main_v13 : FVec F S_ .f32 := Host.atan2 main_cst_5 main_cst_6
  let main_cst_7 : FVec F S_ .f32 := constant S_ .f32 0x40000000#32
  let main_v14 : FVec F S_ .f32 := mulf main_cst_7 main_v13
  fn_part1 (F := F) main_v0 main_v12 main_v14
-- ==== Kernel.lean ====
abbrev S128x32768x1 : Shape := ⟨3, ![128, 32768, 1]⟩
abbrev S128x32768 : Shape := ⟨2, ![128, 32768]⟩
abbrev S128x128x256 : Shape := ⟨3, ![128, 128, 256]⟩
abbrev S128x128x128 : Shape := ⟨3, ![128, 128, 128]⟩
abbrev S_ : Shape := ⟨0, ![]⟩
abbrev S128x128 : Shape := ⟨2, ![128, 128]⟩
abbrev S4x128x128 : Shape := ⟨3, ![4, 128, 128]⟩
abbrev S4x128x256 : Shape := ⟨3, ![4, 128, 256]⟩
abbrev S1x128x128 : Shape := ⟨3, ![1, 128, 128]⟩
abbrev S1 : Shape := ⟨1, ![1]⟩
abbrev S1x1x1 : Shape := ⟨3, ![1, 1, 1]⟩
abbrev S1x10 : Shape := ⟨2, ![1, 10]⟩
abbrev S10x1 : Shape := ⟨2, ![10, 1]⟩
abbrev S128x1 : Shape := ⟨2, ![128, 1]⟩
abbrev S1x256 : Shape := ⟨2, ![1, 256]⟩
abbrev S128x10 : Shape := ⟨2, ![128, 10]⟩
abbrev S10x256 : Shape := ⟨2, ![10, 256]⟩
abbrev S128x256 : Shape := ⟨2, ![128, 256]⟩
abbrev S1x128x256 : Shape := ⟨3, ![1, 128, 256]⟩

abbrev nBuf : Space → Nat
  | .hbm => 82
  | .vmem => 14
  | .smem => 0
  | _ => 0

abbrev bufTy : (tb : Table) → Fin (tcTables nBuf tb) → BufTy
  | .hbm, ⟨0, _⟩ => ⟨S128x32768x1, .f32⟩
  | .hbm, ⟨1, _⟩ => ⟨S128x32768, .f32⟩
  | .hbm, ⟨2, _⟩ => ⟨S128x128x256, .f32⟩
  | .hbm, ⟨3, _⟩ => ⟨S128x128x128, .f32⟩
  | .hbm, ⟨4, _⟩ => ⟨S128x128x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S128x128, .i32⟩
  | .hbm, ⟨11, _⟩ => ⟨S128x128, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i32⟩
  | .hbm, ⟨18, _⟩ => ⟨S128x128, .i32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S_, .f32⟩
  | .hbm, ⟨27, _⟩ => ⟨S128x128, .f32⟩
  | .hbm, ⟨28, _⟩ => ⟨S128x128, .f32⟩
  | .hbm, ⟨29, _⟩ => ⟨S_, .f32⟩
  | .hbm, ⟨30, _⟩ => ⟨S128x128, .f32⟩
  | .hbm, ⟨31, _⟩ => ⟨S128x128, .f32⟩
  | .hbm, ⟨32, _⟩ => ⟨S_, .i32⟩
  | .hbm, ⟨33, _⟩ => ⟨S128x128, .i32⟩
  | .hbm, ⟨34, _⟩ => ⟨S128x128, .i32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S_, .f32⟩
  | .hbm, ⟨39, _⟩ => ⟨S128x128, .f32⟩
  | .hbm, ⟨40, _⟩ => ⟨S128x128, .f32⟩
  | .hbm, ⟨41, _⟩ => ⟨S128x128, .f32⟩
  | .hbm, ⟨42, _⟩ => ⟨S_, .f32⟩
  | .hbm, ⟨43, _⟩ => ⟨S128x128, .f32⟩
  | .hbm, ⟨44, _⟩ => ⟨S128x128, .f32⟩
  | .hbm, ⟨45, _⟩ => ⟨S_, .f32⟩
  | .hbm, ⟨46, _⟩ => ⟨S128x128, .f32⟩
  | .hbm, ⟨47, _⟩ => ⟨S128x128, .f32⟩
  | .hbm, ⟨48, _⟩ => ⟨S128x128, .i32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S_, .f32⟩
  | .hbm, ⟨53, _⟩ => ⟨S128x128, .f32⟩
  | .hbm, ⟨54, _⟩ => ⟨S128x128, .f32⟩
  | .hbm, ⟨55, _⟩ => ⟨S128x128, .i32⟩
  | .hbm, ⟨56, _⟩ => ⟨S128x128, .f32⟩
  | .hbm, ⟨57, _⟩ => ⟨S128x128, .f32⟩
  | .hbm, ⟨58, _⟩ => ⟨S128x128, .f32⟩
  | .hbm, ⟨59, _⟩ => ⟨S_, .f32⟩
  | .hbm, ⟨60, _⟩ => ⟨S128x128, .f32⟩
  | .hbm, ⟨61, _⟩ => ⟨S128x128, .f32⟩
  | .hbm, ⟨62, _⟩ => ⟨S_, .i32⟩
  | .hbm, ⟨63, _⟩ => ⟨S128x128, .i32⟩
  | .hbm, ⟨64, _⟩ => ⟨S128x128, .i32⟩
  | .hbm, ⟨65, _⟩ => ⟨S128x128, .i32⟩
  | .hbm, ⟨66, _⟩ => ⟨S128x128, .f32⟩
  | .hbm, ⟨67, _⟩ => ⟨S128x128, .f32⟩
  | .hbm, ⟨68, _⟩ => ⟨S128x128, .f32⟩
  | .hbm, ⟨69, _⟩ => ⟨S_, .f32⟩
  | .hbm, ⟨70, _⟩ => ⟨S128x128, .f32⟩
  | .hbm, ⟨71, _⟩ => ⟨S128x128, .f32⟩
  | .hbm, ⟨72, _⟩ => ⟨S128x128, .f32⟩
  | .hbm, ⟨73, _⟩ => ⟨S128x128, .f32⟩
  | .hbm, ⟨74, _⟩ => ⟨S128x128, .f32⟩
  | .hbm, ⟨75, _⟩ => ⟨S128x128, .f32⟩
  | .hbm, ⟨76, _⟩ => ⟨S128x128, .f32⟩
  | .hbm, ⟨77, _⟩ => ⟨S128x128, .f32⟩
  | .hbm, ⟨78, _⟩ => ⟨S128x128, .f32⟩
  | .hbm, ⟨79, _⟩ => ⟨S128x128, .f32⟩
  | .hbm, ⟨80, _⟩ => ⟨S128x128, .f32⟩
  | .hbm, ⟨81, _⟩ => ⟨S128x128x256, .f32⟩
  | .local _ .vmem, ⟨0, _⟩ => ⟨S4x128x128, .f32⟩
  | .local _ .vmem, ⟨1, _⟩ => ⟨S4x128x128, .f32⟩
  | .local _ .vmem, ⟨2, _⟩ => ⟨S4x128x128, .f32⟩
  | .local _ .vmem, ⟨3, _⟩ => ⟨S4x128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S4x128x256, .f32⟩
  | .local _ .vmem, ⟨13, _⟩ => ⟨S4x128x256, .f32⟩
  | _, _ => ⟨S128x32768x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_c_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_cst_9 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_11 : Ref sig .tc := ⟨.hbm, 59, rfl⟩
abbrev main_v45 : Ref sig .tc := ⟨.hbm, 60, rfl⟩
abbrev main_v46 : Ref sig .tc := ⟨.hbm, 61, rfl⟩
abbrev main_c_12 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_13 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "rad" => some ((Real.pi * 16384⁻¹ : ℝ) : EReal)
  | _ => none
-- ==== ReferenceIdeal.lean ====
abbrev S128x32768x1 : Shape := ⟨3, ![128, 32768, 1]⟩
abbrev S128x32768 : Shape := ⟨2, ![128, 32768]⟩
abbrev S_ : Shape := ⟨0, ![]⟩
abbrev S32768 : Shape := ⟨1, ![32768]⟩
abbrev S1x32768 : Shape := ⟨2, ![1, 32768]⟩
abbrev S32768x32768 : Shape := ⟨2, ![32768, 32768]⟩
abbrev S128x8 : Shape := ⟨2, ![128, 8]⟩
abbrev S128 : Shape := ⟨1, ![128]⟩
abbrev S128x1 : Shape := ⟨2, ![128, 1]⟩
abbrev S128x8x1 : Shape := ⟨3, ![128, 8, 1]⟩
abbrev S128x8x2 : Shape := ⟨3, ![128, 8, 2]⟩
abbrev S128x128x256 : Shape := ⟨3, ![128, 128, 256]⟩

abbrev nBuf : Space → Nat
  | .hbm => 100
  | .vmem => 0
  | .smem => 0
  | _ => 0

abbrev bufTy : (tb : Table) → Fin (tcTables nBuf tb) → BufTy
  | .hbm, ⟨0, _⟩ => ⟨S128x32768x1, .f32⟩
  | .hbm, ⟨1, _⟩ => ⟨S128x32768, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S32768, .f32⟩
  | .hbm, ⟨14, _⟩ => ⟨S_, .f32⟩
  | .hbm, ⟨15, _⟩ => ⟨S32768, .f32⟩
  | .hbm, ⟨16, _⟩ => ⟨S32768, .f32⟩
  | .hbm, ⟨17, _⟩ => ⟨S_, .f32⟩
  | .hbm, ⟨18, _⟩ => ⟨S32768, .f32⟩
  | .hbm, ⟨19, _⟩ => ⟨S32768, .f32⟩
  | .hbm, ⟨20, _⟩ => ⟨S1x32768, .f32⟩
  | .hbm, ⟨21, _⟩ => ⟨S128x32768, .f32⟩
  | .hbm, ⟨22, _⟩ => ⟨S128x32768, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S32768x32768, .i32⟩
  | .hbm, ⟨29, _⟩ => ⟨S32768x32768, .i32⟩
  | .hbm, ⟨30, _⟩ => ⟨S32768x32768, .i32⟩
  | .hbm, ⟨31, _⟩ => ⟨S_, .i32⟩
  | .hbm, ⟨32, _⟩ => ⟨S32768x32768, .i32⟩
  | .hbm, ⟨33, _⟩ => ⟨S32768x32768, .i32⟩
  | .hbm, ⟨34, _⟩ => ⟨S32768x32768, .f32⟩
  | .hbm, ⟨35, _⟩ => ⟨S32768x32768, .f32⟩
  | .hbm, ⟨36, _⟩ => ⟨S32768x32768, .f32⟩
  | .hbm, ⟨37, _⟩ => ⟨S_, .f32⟩
  | .hbm, ⟨38, _⟩ => ⟨S32768x32768, .f32⟩
  | .hbm, ⟨39, _⟩ => ⟨S32768x32768, .f32⟩
  | .hbm, ⟨40, _⟩ => ⟨S32768x32768, .f32⟩
  | .hbm, ⟨41, _⟩ => ⟨S128x32768, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S32768x32768, .i32⟩
  | .hbm, ⟨48, _⟩ => ⟨S32768x32768, .i32⟩
  | .hbm, ⟨49, _⟩ => ⟨S32768x32768, .i32⟩
  | .hbm, ⟨50, _⟩ => ⟨S_, .i32⟩
  | .hbm, ⟨51, _⟩ => ⟨S32768x32768, .i32⟩
  | .hbm, ⟨52, _⟩ => ⟨S32768x32768, .i32⟩
  | .hbm, ⟨53, _⟩ => ⟨S32768x32768, .f32⟩
  | .hbm, ⟨54, _⟩ => ⟨S32768x32768, .f32⟩
  | .hbm, ⟨55, _⟩ => ⟨S32768x32768, .f32⟩
  | .hbm, ⟨56, _⟩ => ⟨S_, .f32⟩
  | .hbm, ⟨57, _⟩ => ⟨S32768x32768, .f32⟩
  | .hbm, ⟨58, _⟩ => ⟨S32768x32768, .f32⟩
  | .hbm, ⟨59, _⟩ => ⟨S32768x32768, .f32⟩
  | .hbm, ⟨60, _⟩ => ⟨S128x32768, .f32⟩
  | .hbm, ⟨61, _⟩ => ⟨S128x32768, .f32⟩
  | .hbm, ⟨62, _⟩ => ⟨S128x32768, .f32⟩
  | .hbm, ⟨63, _⟩ => ⟨S128x32768, .f32⟩
  | .hbm, ⟨64, _⟩ => ⟨S128x32768, .f32⟩
  | .hbm, ⟨65, _⟩ => ⟨S128x32768, .f32⟩
  | .hbm, ⟨66, _⟩ => ⟨S128x8, .f32⟩
  | .hbm, ⟨67, _⟩ => ⟨S128x8, .i32⟩
  | .hbm, ⟨68, _⟩ => ⟨S_, .f32⟩
  | .hbm, ⟨69, _⟩ => ⟨S128x32768, .f32⟩
  | .hbm, ⟨70, _⟩ => ⟨S128, .i32⟩
  | .hbm, ⟨71, _⟩ => ⟨S128x1, .i32⟩
  | .hbm, ⟨72, _⟩ => ⟨S128x8, .i32⟩
  | .hbm, ⟨73, _⟩ => ⟨S128x8x1, .i32⟩
  | .hbm, ⟨74, _⟩ => ⟨S128x8x1, .i32⟩
  | .hbm, ⟨75, _⟩ => ⟨S128x8x2, .i32⟩
  | .hbm, ⟨76, _⟩ => ⟨S128x32768, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S32768x32768, .i32⟩
  | .hbm, ⟨83, _⟩ => ⟨S32768x32768, .i32⟩
  | .hbm, ⟨84, _⟩ => ⟨S32768x32768, .i32⟩
  | .hbm, ⟨85, _⟩ => ⟨S_, .i32⟩
  | .hbm, ⟨86, _⟩ => ⟨S32768x32768, .i32⟩
  | .hbm, ⟨87, _⟩ => ⟨S32768x32768, .i32⟩
  | .hbm, ⟨88, _⟩ => ⟨S32768x32768, .f32⟩
  | .hbm, ⟨89, _⟩ => ⟨S32768x32768, .f32⟩
  | .hbm, ⟨90, _⟩ => ⟨S32768x32768, .f32⟩
  | .hbm, ⟨91, _⟩ => ⟨S_, .f32⟩
  | .hbm, ⟨92, _⟩ => ⟨S32768x32768, .f32⟩
  | .hbm, ⟨93, _⟩ => ⟨S32768x32768, .f32⟩
  | .hbm, ⟨94, _⟩ => ⟨S32768x32768, .f32⟩
  | .hbm, ⟨95, _⟩ => ⟨S128x32768, .f32⟩
  | .hbm, ⟨96, _⟩ => ⟨S_, .f32⟩
  | .hbm, ⟨97, _⟩ => ⟨S128x32768, .f32⟩
  | .hbm, ⟨98, _⟩ => ⟨S128x32768, .f32⟩
  | .hbm, ⟨99, _⟩ => ⟨S128x128x256, .f32⟩
  | _, _ => ⟨S128x32768x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_cst_4 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_5 : Ref sig .tc := ⟨.hbm, 23, rfl⟩
abbrev main_cst_6 : Ref sig .tc := ⟨.hbm, 24, rfl⟩
abbrev main_v16 : Ref sig .tc := ⟨.hbm, 25, rfl⟩
abbrev main_cst_7 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_9 : Ref sig .tc := ⟨.hbm, 42, rfl⟩
abbrev main_cst_10 : Ref sig .tc := ⟨.hbm, 43, rfl⟩
abbrev main_v30 : Ref sig .tc := ⟨.hbm, 44, rfl⟩
abbrev main_cst_11 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_12 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_13 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_values : Ref sig .tc := ⟨.hbm, 66, rfl⟩
abbrev main_indices : Ref sig .tc := ⟨.hbm, 67, rfl⟩
abbrev main_cst_14 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_15 : Ref sig .tc := ⟨.hbm, 77, rfl⟩
abbrev main_cst_16 : Ref sig .tc := ⟨.hbm, 78, rfl⟩
abbrev main_v57 : Ref sig .tc := ⟨.hbm, 79, rfl⟩
abbrev main_cst_17 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_18 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_19 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_20 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== Proof.Dft.lean ====
module
public import Idealize.ShloMosaic.PureOps.Ideal
public import Mathlib.Analysis.SpecialFunctions.Trigonometric.Basic
@[expose] public section
noncomputable section
namespace Cert.Spectrum
open Finset Complex

/-- `exp (- 2 pi i j / 32768)`. -/
def root (j : ℕ) : ℂ := Complex.exp (-(2 * Real.pi * j / 32768 : ℝ) * I)

theorem root_add (i j : ℕ) : root (i + j) = root i * root j := by
  unfold root; rw [← Complex.exp_add]; congr 1; push_cast; ring

theorem root_period (j : ℕ) : root (32768 * j) = 1 := by
  unfold root
  have : (-((2 * Real.pi * ((32768 * j : ℕ) : ℝ) / 32768 : ℝ) : ℂ) * I) = (-(j : ℤ) : ℤ) * (2 * Real.pi * I) := by
    push_cast; ring
  rw [this, Complex.exp_int_mul_two_pi_mul_I]

theorem root_mod (j : ℕ) : root (j % 32768) = root j := by
  conv_rhs => rw [← Nat.mod_add_div j 32768, root_add, root_period, mul_one]

theorem root_re (j : ℕ) : (root j).re = Real.cos (2 * Real.pi * j / 32768) := by
  unfold root
  rw [← Complex.ofReal_neg, Complex.exp_ofReal_mul_I_re, Real.cos_neg]

theorem root_im (j : ℕ) : (root j).im = -Real.sin (2 * Real.pi * j / 32768) := by
  unfold root
  rw [← Complex.ofReal_neg, Complex.exp_ofReal_mul_I_im, Real.sin_neg]

theorem root_eq (j : ℕ) : root j = (Real.cos (2 * Real.pi * j / 32768) : ℝ) + (-Real.sin (2 * Real.pi * j / 32768) : ℝ) * I := by
  rw [← root_re, ← root_im, Complex.re_add_im]

/-- Powers of the root that cancel are conjugate to one another. -/
theorem root_conj {i j q : ℕ} (h : i + j = 32768 * q) : root i = (starRingEnd ℂ) (root j) := by
  have h1 : root i * root j = 1 := by rw [← root_add, h, root_period]
  have h2 : (starRingEnd ℂ) (root j) * root j = 1 := by
    unfold root
    rw [← Complex.exp_conj, ← Complex.exp_add, map_mul, map_neg, Complex.conj_ofReal, Complex.conj_I,
      show ∀ z : ℂ, -z * -I + -z * I = 0 from fun z => by ring, Complex.exp_zero]
  have h3 : root j ≠ 0 := Complex.exp_ne_zero _
  exact mul_right_cancel₀ h3 (h1.trans h2.symm)

/-- The discrete Fourier transform of the samples `y 0, ..., y 32767` at the frequency `k`. -/
def dft (y : ℕ → ℝ) (k : ℕ) : ℂ := ∑ n ∈ range 32768, (y n : ℂ) * root (k * n)

/-- The squared magnitude of the spectrum. -/
def power (y : ℕ → ℝ) (k : ℕ) : ℝ := Complex.normSq (dft y k)

/-- The cosine of frequency `k` at sample `n`. -/
def wave (n k : ℕ) : ℝ := Real.cos (2 * Real.pi * ((k * n % 32768 : ℕ) : ℝ) / 32768)

theorem wave_eq (n k : ℕ) : wave n k = (root (k * n)).re := by
  rw [wave, ← root_re, root_mod]

theorem power_eq (y : ℕ → ℝ) (k : ℕ) : power y k =
    (∑ n ∈ range 32768, y n * Real.cos (2 * Real.pi * ((k * n % 32768 : ℕ) : ℝ) / 32768)) *
      (∑ n ∈ range 32768, y n * Real.cos (2 * Real.pi * ((k * n % 32768 : ℕ) : ℝ) / 32768)) +
    (∑ n ∈ range 32768, y n * Real.sin (2 * Real.pi * ((k * n % 32768 : ℕ) : ℝ) / 32768)) *
      (∑ n ∈ range 32768, y n * Real.sin (2 * Real.pi * ((k * n % 32768 : ℕ) : ℝ) / 32768)) := by
  have hre : (dft y k).re = ∑ n ∈ range 32768, y n * Real.cos (2 * Real.pi * ((k * n % 32768 : ℕ) : ℝ) / 32768) := by
    rw [dft, Complex.re_sum]
    refine sum_congr rfl fun n _ => ?_
    rw [Complex.re_ofReal_mul, ← root_mod, root_re]
  have him : (dft y k).im = -∑ n ∈ range 32768, y n * Real.sin (2 * Real.pi * ((k * n % 32768 : ℕ) : ℝ) / 32768) := by
    rw [dft, Complex.im_sum, ← sum_neg_distrib]
    refine sum_congr rfl fun n _ => ?_
    rw [Complex.im_ofReal_mul, ← root_mod, root_im]; ring
  rw [power, Complex.normSq_apply, hre, him]; ring

theorem power_nonneg (y : ℕ → ℝ) (k : ℕ) : 0 ≤ power y k := Complex.normSq_nonneg _

theorem mirror_mul {k n : ℕ} (hk : k ≤ 32768) : (32768 - k) * n + k * n = 32768 * n := by
  rw [← Nat.add_mul, Nat.sub_add_cancel hk]

/-- The spectrum of real samples has the same magnitude at `k` and at `32768 - k`. -/
theorem power_mirror (y : ℕ → ℝ) {k : ℕ} (hk : k ≤ 32768) : power y (32768 - k) = power y k := by
  have : dft y (32768 - k) = (starRingEnd ℂ) (dft y k) := by
    rw [dft, dft, map_sum]
    refine sum_congr rfl fun n _ => ?_
    rw [map_mul, Complex.conj_ofReal, root_conj (mirror_mul hk)]
  rw [power, this, Complex.normSq_conj, power]

theorem wave_mirror (n : ℕ) {k : ℕ} (hk : k ≤ 32768) : wave n (32768 - k) = wave n k := by
  rw [wave_eq, wave_eq, root_conj (mirror_mul hk), Complex.conj_re]

/-- A cosine of frequency `k` at the sample `p + q` from its values at `p` and at `q`. -/
theorem wave_add (p q k : ℕ) : wave (p + q) k =
    Real.cos (2 * Real.pi * ((p * k % 32768 : ℕ) : ℝ) / 32768) * Real.cos (2 * Real.pi * ((k * q % 32768 : ℕ) : ℝ) / 32768) -
      Real.sin (2 * Real.pi * ((p * k % 32768 : ℕ) : ℝ) / 32768) * Real.sin (2 * Real.pi * ((k * q % 32768 : ℕ) : ℝ) / 32768) := by
  rw [wave_eq, Nat.mul_add, root_add, Complex.mul_re, ← root_re, ← root_re, Nat.mul_comm k p, root_mod, root_mod]
  have h1 : Real.sin (2 * Real.pi * ((p * k % 32768 : ℕ) : ℝ) / 32768) = -(root (p * k)).im := by
    rw [← root_mod, root_im, neg_neg]
  have h2 : Real.sin (2 * Real.pi * ((k * q % 32768 : ℕ) : ℝ) / 32768) = -(root (k * q)).im := by
    rw [← root_mod, root_im, neg_neg]
  rw [h1, h2]; ring

/-- A sum over `p * q` places in groups of `q`. -/
theorem sum_range_mul {A : Type} [AddCommMonoid A] (g : ℕ → A) (p q : ℕ) :
    ∑ n ∈ range (p * q), g n = ∑ a ∈ range p, ∑ b ∈ range q, g (q * a + b) := by
  induction p with
  | zero => simp
  | succ p ih => rw [Nat.succ_mul, Finset.sum_range_add, ih, Finset.sum_range_succ, Nat.mul_comm p q]

theorem sum_samples {A : Type} [AddCommMonoid A] (g : ℕ → A) :
    ∑ n ∈ range 32768, g n = ∑ a ∈ range 128, ∑ b ∈ range 128, (g (256 * a + 2 * b) + g (256 * a + 2 * b + 1)) := by
  rw [show 32768 = 128 * 256 from rfl, sum_range_mul]
  refine sum_congr rfl fun a _ => ?_
  rw [show 256 = 128 * 2 from rfl, sum_range_mul]
  refine sum_congr rfl fun b _ => ?_
  rw [Finset.sum_range_succ, Finset.sum_range_one]
  congr 1

/-- The transform of a `128 x 128` array in two steps of 128 points each, with the twiddle factors between them. -/
def twoStep (g : ℕ → ℕ → ℂ) (i j : ℕ) : ℂ :=
  ∑ b ∈ range 128, (∑ a ∈ range 128, root (256 * (i * a)) * g a b) * root (2 * (i * b)) * root (256 * (b * j))

theorem twoStep_eq (g : ℕ → ℕ → ℂ) (i j : ℕ) : twoStep g i j =
    ∑ a ∈ range 128, ∑ b ∈ range 128, g a b * root ((i + 128 * j) * (256 * a + 2 * b)) := by
  rw [twoStep, Finset.sum_comm]
  refine sum_congr rfl fun b _ => ?_
  rw [Finset.sum_mul, Finset.sum_mul]
  refine sum_congr rfl fun a _ => ?_
  rw [show (i + 128 * j) * (256 * a + 2 * b) = 256 * (i * a) + 2 * (i * b) + 256 * (b * j) + 32768 * (j * a) by ring,
    root_add, root_add, root_add, root_period]
  ring

/-- The transform from those of the even and of the odd samples. -/
theorem dft_eq (y : ℕ → ℝ) (i j : ℕ) : dft y (i + 128 * j) =
    twoStep (fun a b => (y (256 * a + 2 * b) : ℂ)) i j +
      root (i + 128 * j) * twoStep (fun a b => (y (256 * a + 2 * b + 1) : ℂ)) i j := by
  rw [dft, sum_samples, twoStep_eq, twoStep_eq, Finset.mul_sum, ← Finset.sum_add_distrib]
  refine sum_congr rfl fun a _ => ?_
  rw [Finset.mul_sum, ← Finset.sum_add_distrib]
  refine sum_congr rfl fun b _ => ?_
  rw [show (i + 128 * j) * (256 * a + 2 * b + 1) = (i + 128 * j) + (i + 128 * j) * (256 * a + 2 * b) by ring, root_add]
  ring

/-- At the frequency 16384 the transform is the sum of the even samples less that of the odd ones. -/
theorem power_nyquist (y : ℕ → ℝ) : power y 16384 =
    (∑ a ∈ range 128, ∑ b ∈ range 128, (y (256 * a + 2 * b) - y (256 * a + 2 * b + 1))) *
      (∑ a ∈ range 128, ∑ b ∈ range 128, (y (256 * a + 2 * b) - y (256 * a + 2 * b + 1))) := by
  have h : dft y 16384 = ((∑ a ∈ range 128, ∑ b ∈ range 128, (y (256 * a + 2 * b) - y (256 * a + 2 * b + 1)) : ℝ) : ℂ) := by
    rw [dft, sum_samples]
    push_cast
    refine sum_congr rfl fun a _ => sum_congr rfl fun b _ => ?_
    have h1 : root (16384 * (256 * a + 2 * b)) = 1 := by
      rw [show 16384 * (256 * a + 2 * b) = 32768 * (128 * a + b) by ring, root_period]
    have h2 : root (16384 * (256 * a + 2 * b + 1)) = -1 := by
      rw [Nat.mul_add, root_add, h1, root_eq,
        show 2 * Real.pi * ((16384 * 1 : ℕ) : ℝ) / 32768 = Real.pi by push_cast; ring, Real.cos_pi, Real.sin_pi]
      simp
    rw [h1, h2]; ring
  rw [power, h, Complex.normSq_ofReal]

end Cert.Spectrum
end
-- ==== Proof.Scalars.lean ====
module
public import Idealize.ShloMosaic.PureOps.Ideal
public import Idealize.ShloMosaic.PureOps.Ideal.Laws
public import Idealize.ShloMosaic.Lib.IdealHost
@[expose] public section
noncomputable section
namespace Cert.Scalars
open Idealize.ShloMosaic
open scoped BigOperators

theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul, -EReal.coe_neg]; norm_num
theorem lit_one : Ideal.ofBits .f32 0x3F800000#32 = ((1 : ℝ) : EReal) := by
  simp [Ideal.ofBits, Ideal.ieee, -EReal.coe_mul]; norm_num
theorem lit_neg_one : Ideal.ofBits .f32 0xBF800000#32 = ((-1 : ℝ) : EReal) := by
  simp [Ideal.ofBits, Ideal.ieee, -EReal.coe_mul, -EReal.coe_neg]; norm_num
theorem lit_zero : Ideal.ofBits .f32 0x00000000#32 = ((0 : ℝ) : EReal) := Ideal.ofBits_zero_f32
theorem lit_two : Ideal.ofBits .f32 0x40000000#32 = ((2 : ℝ) : EReal) := by
  simp [Ideal.ofBits, Ideal.ieee, -EReal.coe_mul, -EReal.coe_neg]; norm_num
theorem lit_128 : Ideal.ofBits .f32 0x43000000#32 = ((128 : ℝ) : EReal) := by
  simp [Ideal.ofBits, Ideal.ieee, -EReal.coe_mul, -EReal.coe_neg]; norm_num
theorem lit_16384 : Ideal.ofBits .f32 0x46800000#32 = ((16384 : ℝ) : EReal) := by
  simp [Ideal.ofBits, Ideal.ieee, -EReal.coe_mul, -EReal.coe_neg]; norm_num
theorem lit_32768 : Ideal.ofBits .f32 0x47000000#32 = ((32768 : ℝ) : EReal) := by
  simp [Ideal.ofBits, Ideal.ieee, -EReal.coe_mul, -EReal.coe_neg]; norm_num
theorem lit_inv : Ideal.ofBits .f32 0x38000000#32 = ((1 / 32768 : ℝ) : EReal) := by
  simp [Ideal.ofBits, Ideal.ieee, -EReal.coe_mul, -EReal.coe_neg]; norm_num
theorem lit_top : Ideal.ofBits .f32 0x7F800000#32 = (⊤ : EReal) := by
  simp [Ideal.ofBits, Ideal.ieee]
theorem lit_bot : Ideal.ofBits .f32 0xFF800000#32 = (⊥ : EReal) := by
  simp [Ideal.ofBits, Ideal.ieee]

/-- The angle of the point (-1, 0) is π. -/
theorem atan2_pi : Ideal.atan2 (Ideal.ofBits .f32 0x00000000#32) (Ideal.ofBits .f32 0xBF800000#32) = ((Real.pi : ℝ) : EReal) := by
  rw [lit_zero, lit_neg_one]
  show ((_ : ℝ) : EReal) = _
  congr 1
  norm_num

/-- Twice that angle. -/
theorem turn : Ideal.ofBits .f32 0x40000000#32 * Ideal.atan2 (Ideal.ofBits .f32 0x00000000#32) (Ideal.ofBits .f32 0xBF800000#32)
    = ((2 * Real.pi : ℝ) : EReal) := by
  rw [atan2_pi, lit_two, EReal.coe_mul]

theorem div_coe (a b : ℝ) (hb : b ≠ 0) : Ideal.div (a : EReal) (b : EReal) = ((a / b : ℝ) : EReal) := by
  unfold Ideal.div
  rw [if_neg (fun h => hb (by exact_mod_cast h)), div_eq_mul_inv, EReal.coe_mul, EReal.coe_inv]

theorem cos_coe (a : ℝ) : Ideal.cos (a : EReal) = ((Real.cos a : ℝ) : EReal) := rfl
theorem sin_coe (a : ℝ) : Ideal.sin (a : EReal) = ((Real.sin a : ℝ) : EReal) := rfl
theorem sqrt_coe (a : ℝ) (h : 0 ≤ a) : Ideal.sqrt (a : EReal) = ((Real.sqrt a : ℝ) : EReal) := by
  show (if a < 0 then (⊥ : EReal) else _) = _
  rw [if_neg (not_lt.mpr h)]

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Half of one less the cosine of `n / 32768` of a turn. -/
def hann (n : ℕ) : ℝ := 1 / 2 * (1 - Real.cos (2 * Real.pi * n / 32768))

theorem hann_zero : hann 0 = 0 := by
  simp [hann]

/-- The window is zero at the first sample alone. -/
theorem hann_ne_zero {n : ℕ} (h0 : n ≠ 0) (hn : n < 32768) : hann n ≠ 0 := by
  have h1 : (0 : ℝ) < n := by exact_mod_cast Nat.pos_of_ne_zero h0
  have h2 : (n : ℝ) < 32768 := by exact_mod_cast hn
  have hp := Real.pi_pos
  have hx : 0 < 2 * Real.pi * n / 32768 := by positivity
  have hy : 2 * Real.pi * n / 32768 < 2 * Real.pi := by
    rw [div_lt_iff₀ (by norm_num)]
    exact mul_lt_mul_of_pos_left h2 (by positivity)
  intro h
  unfold hann at h
  have h3 : Real.cos (2 * Real.pi * n / 32768) = 1 := by linarith
  exact hx.ne' ((Real.cos_eq_one_iff_of_lt_of_lt (by linarith) hy).mp h3)

/-- The window's entry computed in the floats' model. -/
theorem hann_eq (n : ℕ) (w : ℝ) (hw : w = n) :
    Ideal.ofBits .f32 0x3F000000#32 * (Ideal.ofBits .f32 0x3F800000#32 - Ideal.cos (Ideal.div
      ((Ideal.ofBits .f32 0x40000000#32 * Ideal.atan2 (Ideal.ofBits .f32 0x00000000#32) (Ideal.ofBits .f32 0xBF800000#32)) * (w : EReal))
      (Ideal.ofBits .f32 0x47000000#32))) = ((hann n : ℝ) : EReal) := by
  subst hw
  rw [turn, lit_32768, ← EReal.coe_mul, div_coe _ _ (by norm_num), cos_coe, lit_one, lit_half, ← EReal.coe_sub, ← EReal.coe_mul]
  rfl

end Cert.Scalars
end
-- ==== Proof.TopOf.lean ====
module
public import Idealize.ShloMosaic.PureOps.Ideal
public import Idealize.ShloMosaic.Lib.SortFacts
public import Idealize.ShloMosaic.Lib.ValueIdx
public import Idealize.ShloMosaic.PureOps.Ideal.Laws
@[expose] public section
noncomputable section
namespace Cert.TopOf
open Idealize.ShloMosaic Idealize.ShloMosaic.ValueIdx

/-- Of two extended reals the greater comes first. -/
def ahead {N : ℕ} (f : Fin N → EReal) (a b : Fin N) : Bool := FloatOps.cmpfTotal (F := Ideal) (φ := .f32) .gt (f a) (f b) == 1#1

theorem ahead_iff {N : ℕ} (f : Fin N → EReal) (a b : Fin N) : ahead f a b = true ↔ f b < f a := by
  unfold ahead
  rw [Ideal.cmpfTotal_def, beq_iff_eq]
  show Ideal.cmp .ogt (f a) (f b) = 1#1 ↔ _
  unfold Ideal.cmp
  by_cases h : f b < f a <;> simp [h]

/-- The place of the row's element that comes `q`-th when the greatest come first. -/
def nth {N : ℕ} (f : Fin N → EReal) (q : Fin N) : Fin N := sortedFrom (ahead f) q

theorem nth_injective {N : ℕ} (f : Fin N → EReal) : Function.Injective (nth f) := sortedFrom_injective _

theorem nth_surjective {N : ℕ} (f : Fin N → EReal) : Function.Surjective (nth f) := sortedFrom_surjective _

/-- Earlier elements are at least as great. -/
theorem nth_le {N : ℕ} (f : Fin N → EReal) {p q : Fin N} (h : p ≤ q) : f (nth f q) ≤ f (nth f p) := by
  rcases h.eq_or_lt with rfl | h
  · exact le_rfl
  have := sortedFrom_noInversion (ahead f) (ahead f) ?_ (fun _ _ h => h) ?_ p q h
  · have h2 : ¬ (ahead f (nth f q) (nth f p) = true) := by unfold nth; rw [this]; simp
    rw [ahead_iff] at h2
    exact not_lt.mp h2
  · intro a b hab
    rw [ahead_iff] at hab
    rw [← Bool.not_eq_true, ahead_iff]
    exact not_lt.mpr hab.le
  · intro a b c hab hbc
    rw [← Bool.not_eq_true, ahead_iff] at hab hbc ⊢
    exact not_lt.mpr ((not_lt.mp hab).trans (not_lt.mp hbc))

theorem along_row {R N : ℕ} (r : Fin R) (q k : Fin N) (hd : 1 < (⟨2, ![R, N]⟩ : Shape).rank) :
    (ix2 r q : (⟨2, ![R, N]⟩ : Shape).Idx).along ⟨1, hd⟩ k = ix2 r k := by
  funext a
  fin_cases a
  · exact Function.update_of_ne (by simp) _ _
  · exact Function.update_self _ _ _

theorem sort2_apply {R N : ℕ} {β : Type} (x : FVec Ideal ⟨2, ![R, N]⟩ .f32) (y : (⟨2, ![R, N]⟩ : Shape).Idx → β) (r : Fin R) (q : Fin N) :
    (Host.sort2 ⟨2, ![R, N]⟩ 1 (fun l r => FloatOps.cmpfTotal (F := Ideal) (φ := .f32) .gt l.1 r.1) x y).1 (ix2 r q)
        = x (ix2 r (nth (fun k => x (ix2 r k)) q))
      ∧ (Host.sort2 ⟨2, ![R, N]⟩ 1 (fun l r => FloatOps.cmpfTotal (F := Ideal) (φ := .f32) .gt l.1 r.1) x y).2 (ix2 r q)
        = y (ix2 r (nth (fun k => x (ix2 r k)) q)) := by
  have hd : 1 < (⟨2, ![R, N]⟩ : Shape).rank := Nat.one_lt_two
  unfold Host.sort2
  rw [dif_pos hd]
  have hsrc : sortedFrom (n := N)
      (fun a b : Fin N => FloatOps.cmpfTotal (F := Ideal) (φ := .f32) .gt (x ((ix2 r q : (⟨2, ![R, N]⟩ : Shape).Idx).along ⟨1, hd⟩ a))
        (x ((ix2 r q : (⟨2, ![R, N]⟩ : Shape).Idx).along ⟨1, hd⟩ b)) == 1#1) q = nth (fun k => x (ix2 r k)) q := by
    unfold nth ahead
    congr 1
    funext a b
    rw [along_row, along_row]
  exact ⟨(congrArg (fun c : Fin N => x ((ix2 r q : (⟨2, ![R, N]⟩ : Shape).Idx).along ⟨1, hd⟩ c)) hsrc).trans (congrArg x (along_row ..)),
    (congrArg (fun c : Fin N => y ((ix2 r q : (⟨2, ![R, N]⟩ : Shape).Idx).along ⟨1, hd⟩ c)) hsrc).trans (congrArg y (along_row ..))⟩

theorem slice_ix2 {R N K : ℕ} {α : Type} (hK : K ≤ N) (x : (⟨2, ![R, N]⟩ : Shape).Idx → α)
    (h : (⟨2, ![R, N]⟩ : Shape).Slices (fun _ => 0) ⟨2, ![R, K]⟩) (r : Fin R) (q : Fin K) :
    extractStridedSlice ⟨2, ![R, K]⟩ (fun _ => 0) x h (ix2 r q) = x (ix2 r (q.castLE hK)) := by
  unfold extractStridedSlice
  congr 1
  funext a
  fin_cases a
  · exact Fin.ext (Nat.zero_add _)
  · exact Fin.ext (Nat.zero_add _)

/-- The greatest `K` of each row. -/
theorem topK_fst {R N K : ℕ} (hK : K ≤ N) (x : FVec Ideal ⟨2, ![R, N]⟩ .f32)
    (h : (⟨2, ![R, N]⟩ : Shape).Slices (fun _ => 0) ⟨2, ![R, K]⟩) (r : Fin R) (q : Fin K) :
    (Host.topK ⟨2, ![R, K]⟩ 1 (FloatOps.cmpfTotal (F := Ideal) .gt) x h).1 (ix2 r q)
      = x (ix2 r (nth (fun k => x (ix2 r k)) (q.castLE hK))) := by
  unfold Host.topK
  dsimp only
  rw [slice_ix2 hK]
  exact (sort2_apply x _ r _).1

/-- And their places. -/
theorem topK_snd {R N K : ℕ} (hK : K ≤ N) (x : FVec Ideal ⟨2, ![R, N]⟩ .f32)
    (h : (⟨2, ![R, N]⟩ : Shape).Slices (fun _ => 0) ⟨2, ![R, K]⟩) (r : Fin R) (q : Fin K) :
    (Host.topK ⟨2, ![R, K]⟩ 1 (FloatOps.cmpfTotal (F := Ideal) .gt) x h).2 (ix2 r q)
      = BitVec.ofNat 32 (nth (fun k => x (ix2 r k)) (q.castLE hK)).val := by
  unfold Host.topK
  dsimp only
  rw [slice_ix2 hK]
  refine (sort2_apply x _ r _).2.trans ?_
  exact dif_pos Nat.one_lt_two

end Cert.TopOf
end
-- ==== Proof.Exchange.lean ====
module
public import Idealize.ShloMosaic.PureOps.Ideal

@[expose] public section
noncomputable section
namespace Cert.Spectrum

/-- Every element of `S` has a value at least that of every element of the range `0, ..., N - 1` outside `S`. -/
def IsTop (N : ℕ) (v : ℕ → ℝ) (S : Finset ℕ) : Prop :=
  S ⊆ Finset.range N ∧ ∀ i ∈ S, ∀ j < N, j ∉ S → v j ≤ v i

/-- Two sets of the same size that both hold greatest values give the same weighted sum, if the weights agree wherever
    an element of one set alone has the value of an element of the other set alone. -/
theorem sum_eq_of_isTop {N : ℕ} {v w c : ℕ → ℝ} {S T : Finset ℕ} (hS : IsTop N v S) (hT : IsTop N v T)
    (hcard : S.card = T.card) (hw : ∀ i j, v i = v j → w i = w j)
    (htie : ∀ i j, i ∈ S → i ∉ T → j ∈ T → j ∉ S → v i = v j → c i = c j) :
    ∑ i ∈ S, w i * c i = ∑ i ∈ T, w i * c i := by
  classical
  have key : ∑ i ∈ S \ T, w i * c i = ∑ i ∈ T \ S, w i * c i := by
    have hc : (S \ T).card = (T \ S).card := by
      have h1 := Finset.card_sdiff_add_card_inter S T
      have h2 := Finset.card_sdiff_add_card_inter T S
      rw [Finset.inter_comm] at h2
      omega
    rcases (S \ T).eq_empty_or_nonempty with h | ⟨i₀, hi₀⟩
    · rw [h, Finset.card_empty] at hc
      rw [h, Finset.card_eq_zero.mp hc.symm]
    · have hne : (T \ S).Nonempty := by
        rw [← Finset.card_pos, ← hc, Finset.card_pos]; exact ⟨i₀, hi₀⟩
      obtain ⟨j₀, hj₀⟩ := hne
      have hv : ∀ i ∈ S \ T, ∀ j ∈ T \ S, v i = v j := by
        intro i hi j hj
        rw [Finset.mem_sdiff] at hi hj
        apply le_antisymm
        · exact hT.2 j hj.1 i (Finset.mem_range.mp (hS.1 hi.1)) hi.2
        · exact hS.2 i hi.1 j (Finset.mem_range.mp (hT.1 hj.1)) hj.2
      have hcc : ∀ i ∈ S \ T, ∀ j ∈ T \ S, c i = c j := by
        intro i hi j hj
        have h := hv i hi j hj
        rw [Finset.mem_sdiff] at hi hj
        exact htie i j hi.1 hi.2 hj.1 hj.2 h
      have e1 : ∀ i ∈ S \ T, w i * c i = w j₀ * c j₀ := by
        intro i hi
        rw [hcc i hi j₀ hj₀, hw i j₀ (hv i hi j₀ hj₀)]
      have e2 : ∀ j ∈ T \ S, w j * c j = w j₀ * c j₀ := by
        intro j hj
        rw [← hcc i₀ hi₀ j hj, ← hw i₀ j (hv i₀ hi₀ j hj), e1 i₀ hi₀]
      rw [Finset.sum_congr rfl e1, Finset.sum_congr rfl e2, Finset.sum_const, Finset.sum_const, hc]
  rw [← Finset.sum_sdiff (Finset.inter_subset_left : S ∩ T ⊆ S), ← Finset.sum_sdiff (Finset.inter_subset_left : T ∩ S ⊆ T),
    Finset.sdiff_inter_self_left, Finset.sdiff_inter_self_left, key, Finset.inter_comm]

end Cert.Spectrum
end
-- ==== Proof.Ref.lean ====
module
public import proofs.«01_k».proof.Proof.Gen.ReferenceIdeal.Run
public import proofs.«01_k».proof.Proof.Dft
public import proofs.«01_k».proof.Proof.Scalars
public import proofs.«01_k».proof.Proof.TopOf
public import proofs.«01_k».proof.Proof.Exchange
public import Idealize.ShloMosaic.Lib.StackMember
public import Idealize.ShloMosaic.Lib.Pipeline.Value
public import Idealize.ShloMosaic.Lib.ScatterToDense.RefScatter
@[expose] public section
noncomputable section
namespace Cert.RefOf
open Idealize.ShloMosaic Idealize.SL.Sem Idealize.ShloMosaic.ValueIdx
open Cert.ReferenceIdeal Cert.ReferenceIdeal.Gen Cert.Spectrum Cert.Scalars
open Idealize.ShloMosaic.StackMember (dotGeneral_plain_apply)
open Idealize.ShloMosaic.ScatterToDense (GS scatter_eq_GS)
open Idealize.ShloMosaic.LaneScatter (lastHit lastHit_cases)
open scoped BigOperators

/-- The word `a b` kept to its lowest fifteen bits counts `a b` modulo 32768. -/
theorem low_bits (a b : ℕ) : ((BitVec.ofNat 32 a * BitVec.ofNat 32 b) &&& 32767#32).toInt = ((a * b % 32768 : ℕ) : ℤ) := by
  have h : ((BitVec.ofNat 32 a * BitVec.ofNat 32 b) &&& 32767#32).toNat = a * b % 32768 := by
    rw [BitVec.toNat_and, BitVec.toNat_mul, BitVec.toNat_ofNat, BitVec.toNat_ofNat, ← Nat.mul_mod,
      show (32767#32).toNat = 2 ^ 15 - 1 from rfl, Nat.and_two_pow_sub_one_eq_mod]
    exact Nat.mod_mod_of_dvd _ ⟨2 ^ 17, by norm_num⟩
  rw [BitVec.toInt_eq_toNat_of_lt (by rw [h]; have := Nat.mod_lt (a * b) (show 0 < 32768 by norm_num); omega), h]

/-- The table of angles. -/
def angles : FVec Ideal S32768x32768 .f32 :=
  Host.divf (mulf (broadcastInDim S32768x32768 ![] bcast_S_S32768x32768 (mulf (constant S_ .f32 0x40000000#32)
      (Host.atan2 (constant S_ .f32 0x00000000#32) (constant S_ .f32 0xBF800000#32))))
    (sitofp .f32 (andi (muli (iotaInDim S32768x32768 32 0) (iotaInDim S32768x32768 32 1))
      (broadcastInDim S32768x32768 ![] bcast_S_S32768x32768 (constantI S_ 32 32767#32)))))
    (broadcastInDim S32768x32768 ![] bcast_S_S32768x32768 (constant S_ .f32 0x47000000#32))

theorem angles_apply (a b : Fin 32768) :
    angles (ix2 a b) = ((2 * Real.pi * ((a.val * b.val % 32768 : ℕ) : ℝ) / 32768 : ℝ) : EReal) := by
  show Ideal.div ((Ideal.ofBits .f32 0x40000000#32 * Ideal.atan2 (Ideal.ofBits .f32 0x00000000#32) (Ideal.ofBits .f32 0xBF800000#32))
    * ((((BitVec.ofNat 32 a.val * BitVec.ofNat 32 b.val) &&& 32767#32).toInt : ℝ) : EReal)) (Ideal.ofBits .f32 0x47000000#32) = _
  rw [low_bits, turn, lit_32768, ← EReal.coe_mul, div_coe _ _ (by norm_num), Int.cast_natCast]

/-- The windowed samples. -/
def windowed (X : FVec Ideal S128x32768x1 .f32) : FVec Ideal S128x32768 .f32 :=
  mulf (shapeCast _ X shapeCasts_S128x32768x1_S128x32768)
    (broadcastInDim S128x32768 ![0, 1] bcast_S1x32768_S128x32768_0_1 (broadcastInDim S1x32768 ![1] bcast_S32768_S1x32768_1
      (mulf (broadcastInDim S32768 ![] bcast_S_S32768 (constant S_ .f32 0x3F000000#32))
        (subf (broadcastInDim S32768 ![] bcast_S_S32768 (constant S_ .f32 0x3F800000#32))
          (Host.cos (Host.divf (mulf (broadcastInDim S32768 ![] bcast_S_S32768 (mulf (constant S_ .f32 0x40000000#32)
              (Host.atan2 (constant S_ .f32 0x00000000#32) (constant S_ .f32 0xBF800000#32))))
            (sitofp .f32 (iotaInDim S32768 32 0)))
            (broadcastInDim S32768 ![] bcast_S_S32768 (constant S_ .f32 0x47000000#32))))))))

/-- Sample `n` of row `r` times the window, as a real number. -/
def sample (X : FVec Ideal S128x32768x1 .f32) (r : Fin 128) (n : ℕ) : ℝ :=
  (X (ix3 r (⟨n % 32768, Nat.mod_lt _ (by norm_num)⟩ : Fin 32768) (0 : Fin 1))).toReal * hann n

/-- Every sample but the first of each row, which the window makes zero, is a real number. -/
def Finite (X : FVec Ideal S128x32768x1 .f32) : Prop :=
  ∀ (r : Fin 128) (n : Fin 32768), n.val ≠ 0 → X (ix3 r n (0 : Fin 1)) ≠ ⊤ ∧ X (ix3 r n (0 : Fin 1)) ≠ ⊥

theorem sample_eq {X : FVec Ideal S128x32768x1 .f32} (hX : Finite X) (r : Fin 128) (n : Fin 32768) :
    X (ix3 r n (0 : Fin 1)) * ((hann n.val : ℝ) : EReal) = ((sample X r n.val : ℝ) : EReal) := by
  unfold sample
  have e : (⟨n.val % 32768, Nat.mod_lt _ (by norm_num)⟩ : Fin 32768) = n := Fin.ext (Nat.mod_eq_of_lt n.isLt)
  by_cases h0 : n.val = 0
  · rw [h0, hann_zero, mul_zero, EReal.coe_zero, mul_zero]
  · rw [e, EReal.coe_mul, EReal.coe_toReal (hX r n h0).1 (hX r n h0).2]

theorem flat_apply (X : FVec Ideal S128x32768x1 .f32) (r : Fin 128) (n : Fin 32768) :
    shapeCast S128x32768 X shapeCasts_S128x32768x1_S128x32768 (ix2 r n) = X (ix3 r n (0 : Fin 1)) := by
  apply shapeCast_apply
  simp [Shape.rowMajor_val_two, Shape.rowMajor_val_three]

theorem windowed_eq (X : FVec Ideal S128x32768x1 .f32) (r : Fin 128) (n : Fin 32768) :
    windowed X (ix2 r n) = X (ix3 r n (0 : Fin 1)) * ((hann n.val : ℝ) : EReal) := by
  rw [← hann_eq n.val (((BitVec.ofNat 32 n.val).toInt : ℝ)) (by
    rw [BitVec.toInt_eq_toNat_of_lt (by rw [BitVec.toNat_ofNat, Nat.mod_eq_of_lt (by omega)]; omega), BitVec.toNat_ofNat,
      Nat.mod_eq_of_lt (by omega)]; norm_cast)]
  rw [← flat_apply X r n]
  rfl

theorem windowed_apply {X : FVec Ideal S128x32768x1 .f32} (hX : Finite X) (r : Fin 128) (n : Fin 32768) :
    windowed X (ix2 r n) = ((sample X r n.val : ℝ) : EReal) := (windowed_eq X r n).trans (sample_eq hX r n)

/-- The product of the rows with a square table. -/
def times (a : FVec Ideal S128x32768 .f32) (b : FVec Ideal S32768x32768 .f32) : FVec Ideal S128x32768 .f32 :=
  Host.dotGeneral dot_S128x32768_S32768x32768_S128x32768_1_0_0_1_n_n none a b

theorem times_apply (a : FVec Ideal S128x32768 .f32) (b : FVec Ideal S32768x32768 .f32) (r : Fin 128) (k : Fin 32768) :
    times a b (ix2 r k) = ∑ n : Fin 32768, a (ix2 r n) * b (ix2 n k) :=
  dotGeneral_plain_apply none a b r k

/-- A product of real rows and a real table. -/
theorem times_real {a : FVec Ideal S128x32768 .f32} {b : FVec Ideal S32768x32768 .f32} {r : Fin 128} {k : Fin 32768} {u v : ℕ → ℝ}
    (ha : ∀ n : Fin 32768, a (ix2 r n) = ((u n.val : ℝ) : EReal)) (hb : ∀ n : Fin 32768, b (ix2 n k) = ((v n.val : ℝ) : EReal)) :
    times a b (ix2 r k) = ((∑ n ∈ Finset.range 32768, u n * v n : ℝ) : EReal) := by
  rw [times_apply, ← Fin.sum_univ_eq_sum_range (fun n => u n * v n), ← sum_coe]
  exact Finset.sum_congr rfl fun n _ => by rw [ha, hb, EReal.coe_mul]

theorem cos_apply (a b : Fin 32768) :
    Host.cos angles (ix2 a b) = ((Real.cos (2 * Real.pi * ((b.val * a.val % 32768 : ℕ) : ℝ) / 32768) : ℝ) : EReal) := by
  show Ideal.cos (angles (ix2 a b)) = _
  rw [angles_apply, cos_coe, mul_comm b.val]

theorem sin_apply (a b : Fin 32768) :
    Host.sin angles (ix2 a b) = ((Real.sin (2 * Real.pi * ((b.val * a.val % 32768 : ℕ) : ℝ) / 32768) : ℝ) : EReal) := by
  show Ideal.sin (angles (ix2 a b)) = _
  rw [angles_apply, sin_coe, mul_comm b.val]

/-- The magnitudes from the real and imaginary parts. -/
def length (a b : FVec Ideal S128x32768 .f32) : FVec Ideal S128x32768 .f32 :=
  Host.sqrt (addf (mulf a a) (mulf (Host.negf b) (Host.negf b)))

theorem length_apply (a b : FVec Ideal S128x32768 .f32) (i : S128x32768.Idx) :
    length a b i = Ideal.sqrt (a i * a i + (-b i) * (-b i)) := rfl

/-- The magnitudes of the spectrum. -/
def magnitudes (X : FVec Ideal S128x32768x1 .f32) : FVec Ideal S128x32768 .f32 :=
  length (times (windowed X) (Host.cos angles)) (times (windowed X) (Host.sin angles))

theorem magnitudes_apply {X : FVec Ideal S128x32768x1 .f32} (hX : Finite X) (r : Fin 128) (k : Fin 32768) :
    magnitudes X (ix2 r k) = ((Real.sqrt (power (sample X r) k.val) : ℝ) : EReal) := by
  have hc := times_real (r := r) (k := k) (u := sample X r)
    (v := fun n => Real.cos (2 * Real.pi * ((k.val * n % 32768 : ℕ) : ℝ) / 32768)) (windowed_apply hX r) (fun n => cos_apply n k)
  have hs := times_real (r := r) (k := k) (u := sample X r)
    (v := fun n => Real.sin (2 * Real.pi * ((k.val * n % 32768 : ℕ) : ℝ) / 32768)) (windowed_apply hX r) (fun n => sin_apply n k)
  unfold magnitudes
  rw [length_apply, hc, hs, ← EReal.coe_neg, ← EReal.coe_mul, ← EReal.coe_mul, ← EReal.coe_add, neg_mul_neg, ← power_eq, sqrt_coe _ (power_nonneg _ _)]

/-- The eight greatest magnitudes of each row. -/
def values (X : FVec Ideal S128x32768x1 .f32) : FVec Ideal S128x8 .f32 :=
  (Host.topK S128x8 1 (FloatOps.cmpfTotal .gt) (magnitudes X) sliceFits_S128x32768_S128x8).1

/-- Their frequencies. -/
def places (X : FVec Ideal S128x32768x1 .f32) : IVec S128x8 32 :=
  (Host.topK S128x8 1 (FloatOps.cmpfTotal .gt) (magnitudes X) sliceFits_S128x32768_S128x8).2

/-- The `q`-th of the row's greatest magnitudes is at this frequency. -/
def freq (X : FVec Ideal S128x32768x1 .f32) (r : Fin 128) (q : Fin 8) : Fin 32768 :=
  TopOf.nth (fun k => magnitudes X (ix2 r k)) (q.castLE (by norm_num))

theorem values_apply (X : FVec Ideal S128x32768x1 .f32) (r : Fin 128) (q : Fin 8) :
    values X (ix2 r q) = magnitudes X (ix2 r (freq X r q)) := TopOf.topK_fst (by norm_num) _ _ r q

theorem places_apply (X : FVec Ideal S128x32768x1 .f32) (r : Fin 128) (q : Fin 8) :
    places X (ix2 r q) = BitVec.ofNat 32 (freq X r q).val := TopOf.topK_snd (by norm_num) _ _ r q

theorem freq_injective (X : FVec Ideal S128x32768x1 .f32) (r : Fin 128) : Function.Injective (freq X r) :=
  fun _ _ h => Fin.castLE_injective _ (TopOf.nth_injective _ h)

/-- The row and the frequency of each entry. -/
def pairs (X : FVec Ideal S128x32768x1 .f32) : IVec S128x8x2 32 :=
  concatenate S128x8x2 2 [⟨S128x8x1, (broadcastInDim S128x8x1 ![0, 1] bcast_S128x8_S128x8x1_0_1
      (broadcastInDim S128x8 ![0, 1] bcast_S128x1_S128x8_0_1 (broadcastInDim S128x1 ![0] bcast_S128_S128x1_0 (iotaInDim S128 32 0))))⟩,
    ⟨S128x8x1, (broadcastInDim S128x8x1 ![0, 1] bcast_S128x8_S128x8x1_0_1 (places X))⟩] concatenates_S128x8x1_S128x8x1_S128x8x2_d2

theorem fst_apply (x y : IVec S128x8x1 32) (r : Fin 128) (q : Fin 8) :
    concatenate S128x8x2 2 [⟨S128x8x1, x⟩, ⟨S128x8x1, y⟩] concatenates_S128x8x1_S128x8x1_S128x8x2_d2 (ix3 r q (0 : Fin 2))
      = x (ix3 r q (0 : Fin 1)) :=
  concatenate_pair_apply_left (t := S128x8x2) (s₁ := S128x8x1) (s₂ := S128x8x1) 2 x y _ (ix3 r q (0 : Fin 2)) rfl (ix3 r q (0 : Fin 1))
    fun b => match b with | ⟨0, _⟩ => rfl | ⟨1, _⟩ => rfl | ⟨2, _⟩ => rfl

theorem snd_apply (x y : IVec S128x8x1 32) (r : Fin 128) (q : Fin 8) :
    concatenate S128x8x2 2 [⟨S128x8x1, x⟩, ⟨S128x8x1, y⟩] concatenates_S128x8x1_S128x8x1_S128x8x2_d2 (ix3 r q (1 : Fin 2))
      = y (ix3 r q (0 : Fin 1)) :=
  concatenate_pair_apply_right (t := S128x8x2) (s₁ := S128x8x1) (s₂ := S128x8x1) 2 x y _ (ix3 r q (1 : Fin 2)) rfl rfl (ix3 r q (0 : Fin 1))
    (fun b hb => match b, hb with | ⟨0, _⟩, _ => rfl | ⟨1, _⟩, _ => rfl | ⟨2, _⟩, hb => absurd rfl hb) rfl

theorem third_apply (x : IVec S128x8 32) (r : Fin 128) (q : Fin 8) (z : Fin 1) :
    broadcastInDim S128x8x1 ![0, 1] bcast_S128x8_S128x8x1_0_1 x (ix3 r q z) = x (ix2 r q) :=
  broadcastInDim_apply _ _ _ _ _ fun a => by fin_cases a <;> rfl

theorem pairs_row (X : FVec Ideal S128x32768x1 .f32) (r : Fin 128) (q : Fin 8) : pairs X (ix3 r q (0 : Fin 2)) = BitVec.ofNat 32 r.val := by
  unfold pairs
  rw [fst_apply, third_apply]
  rfl

theorem pairs_place (X : FVec Ideal S128x32768x1 .f32) (r : Fin 128) (q : Fin 8) : pairs X (ix3 r q (1 : Fin 2)) = places X (ix2 r q) := by
  unfold pairs
  rw [snd_apply, third_apply]

/-- The spectrum with all but the eight greatest magnitudes zero. -/
def kept (X : FVec Ideal S128x32768x1 .f32) : FVec Ideal S128x32768 .f32 :=
  Host.scatter scatter_S128x32768_S128x8x2_S128x8_n_01_01_2 (fun _ b => b)
    (broadcastInDim S128x32768 ![] bcast_S_S128x32768 (constant S_ .f32 0x00000000#32)) (pairs X) (values X)

/-- The kept frequencies of a row. -/
def top (X : FVec Ideal S128x32768x1 .f32) (r : Fin 128) : Finset ℕ := Finset.univ.image fun q => (freq X r q).val

theorem mem_top {X : FVec Ideal S128x32768x1 .f32} {r : Fin 128} {k : ℕ} : k ∈ top X r ↔ ∃ q, (freq X r q).val = k := by
  simp [top]

theorem top_card (X : FVec Ideal S128x32768x1 .f32) (r : Fin 128) : (top X r).card = 8 := by
  unfold top
  rw [Finset.card_image_of_injective _ fun _ _ h => freq_injective X r (Fin.ext h), Finset.card_univ, Fintype.card_fin]

theorem power_le_of {X : FVec Ideal S128x32768x1 .f32} (hX : Finite X) (r : Fin 128) {i j : Fin 32768}
    (h : magnitudes X (ix2 r j) ≤ magnitudes X (ix2 r i)) : power (sample X r) j.val ≤ power (sample X r) i.val := by
  rw [magnitudes_apply hX, magnitudes_apply hX, EReal.coe_le_coe_iff] at h
  exact (Real.sqrt_le_sqrt_iff (power_nonneg _ _)).mp h

/-- Each kept frequency has at least the power of each other one. -/
theorem top_isTop {X : FVec Ideal S128x32768x1 .f32} (hX : Finite X) (r : Fin 128) : IsTop 32768 (power (sample X r)) (top X r) := by
  refine ⟨fun i hi => ?_, fun i hi j hj hjn => ?_⟩
  · obtain ⟨q, rfl⟩ := mem_top.mp hi
    exact Finset.mem_range.mpr (freq X r q).isLt
  · obtain ⟨q, rfl⟩ := mem_top.mp hi
    obtain ⟨p, hp⟩ := TopOf.nth_surjective (fun k => magnitudes X (ix2 r k)) ⟨j, hj⟩
    have hp8 : 8 ≤ p.val := by
      by_contra hlt
      exact hjn (mem_top.mpr ⟨⟨p.val, by omega⟩, congrArg Fin.val hp⟩)
    refine power_le_of hX r (j := ⟨j, hj⟩) ?_
    have := TopOf.nth_le (fun k => magnitudes X (ix2 r k)) (p := q.castLE (by norm_num)) (q := p)
      (Fin.le_def.mpr (by have := q.isLt; simp only [Fin.val_castLE]; omega))
    rwa [hp] at this

theorem kept_apply {X : FVec Ideal S128x32768x1 .f32} (hX : Finite X) (r : Fin 128) (k : Fin 32768) :
    kept X (ix2 r k) = ((if k.val ∈ top X r then Real.sqrt (power (sample X r) k.val) else 0 : ℝ) : EReal) := by
  have e : kept X (ix2 r k) = GS (fun q => if h : q < 8 then places X (ix2 r ⟨q, h⟩) else 0#32)
      (fun q => if h : q < 8 then values X (ix2 r ⟨q, h⟩) else 0) (Ideal.ofBits .f32 0x00000000#32) k.val 8 :=
    scatter_eq_GS scatter_S128x32768_S128x8x2_S128x8_n_01_01_2 rfl rfl rfl (by norm_num) (by norm_num) _ _ _
      (fun i q => if h : q < 8 then places X (ix2 i ⟨q, h⟩) else 0#32) (fun i q => if h : q < 8 then values X (ix2 i ⟨q, h⟩) else 0)
      (pairs_row X) (fun i q => by rw [pairs_place, dif_pos q.isLt]) (fun i q => by rw [dif_pos q.isLt]) r k
  have hw : ∀ q (h : q < 8), (places X (ix2 r ⟨q, h⟩)).toNat = (freq X r ⟨q, h⟩).val := fun q h => by
    rw [places_apply, BitVec.toNat_ofNat, Nat.mod_eq_of_lt (by have := (freq X r ⟨q, h⟩).isLt; omega)]
  rw [e]
  unfold GS
  rcases lastHit_cases (fun q => k.val = ((if h : q < 8 then places X (ix2 r ⟨q, h⟩) else 0#32 : BitVec 32)).toNat)
    (fun q => if h : q < 8 then values X (ix2 r ⟨q, h⟩) else 0) (Ideal.ofBits .f32 0x00000000#32) 8 with ⟨q, hq, hit, -, hv⟩ | ⟨hn, hv⟩
  · rw [hv]
    rw [dif_pos hq, hw] at hit
    rw [dif_pos hq, values_apply, if_pos (mem_top.mpr ⟨_, hit.symm⟩), show freq X r ⟨q, hq⟩ = k from Fin.ext hit.symm, magnitudes_apply hX]
  · rw [hv, lit_zero, if_neg, EReal.coe_zero]
    intro hm
    obtain ⟨q, hq⟩ := mem_top.mp hm
    refine hn q.val q.isLt ?_
    rw [dif_pos q.isLt, hw]
    exact hq.symm

/-- The result. -/
def out (X : FVec Ideal S128x32768x1 .f32) : FVec Ideal S128x128x256 .f32 :=
  shapeCast _ (Host.divf (times (kept X) (Host.cos angles)) (broadcastInDim S128x32768 ![] bcast_S_S128x32768 (constant S_ .f32 0x47000000#32)))
    shapeCasts_S128x32768_S128x128x256

theorem quotient_apply (a : FVec Ideal S128x32768 .f32) (i : S128x32768.Idx) :
    Host.divf a (broadcastInDim S128x32768 ![] bcast_S_S128x32768 (constant S_ .f32 0x47000000#32)) i
      = Ideal.div (a i) (Ideal.ofBits .f32 0x47000000#32) := rfl

theorem out_apply {X : FVec Ideal S128x32768x1 .f32} (hX : Finite X) (r a : Fin 128) (b : Fin 256) :
    out X (ix3 r a b) = (((∑ k ∈ top X r, Real.sqrt (power (sample X r) k) * wave (256 * a.val + b.val) k) / 32768 : ℝ) : EReal) := by
  have hn : 256 * a.val + b.val < 32768 := by have := a.isLt; have := b.isLt; omega
  have e : out X (ix3 r a b) = _ := shapeCast_apply _ _ (ix3 r a b) (ix2 r (⟨256 * a.val + b.val, hn⟩ : Fin 32768))
    (by rw [Shape.rowMajor_val_two, Shape.rowMajor_val_three]; show r.val * 32768 + (256 * a.val + b.val) = (r.val * 128 + a.val) * 256 + b.val; omega)
  rw [e, quotient_apply]
  rw [times_real (u := fun k => if k ∈ top X r then Real.sqrt (power (sample X r) k) else 0)
    (v := fun k => wave (256 * a.val + b.val) k) (kept_apply hX r)
    (fun k => by rw [cos_apply, wave, mul_comm k.val])]
  rw [lit_32768, div_coe _ _ (by norm_num)]
  refine congrArg (fun z : ℝ => ((z / 32768 : ℝ) : EReal)) ?_
  have hsub : top X r ⊆ Finset.range 32768 := (top_isTop hX r).1
  rw [← Finset.sum_subset hsub fun k _ hk => by rw [if_neg hk, zero_mul]]
  exact Finset.sum_congr rfl fun k hk => by rw [if_pos hk]

theorem res_eq (m : (ℓ : Loc nD τ sig) → Buf (Elt Ideal) ℓ) (c : Dev nD) :
    Cert.ReferenceIdeal.Value.res_out0 m c = out (m ((c.tc : Thread nD τ).loc main_arg0)) := by
  unfold Cert.ReferenceIdeal.Value.res_out0 Cert.ReferenceIdeal.Value.res_main_v73
  rfl

end Cert.RefOf
end
-- ==== Proof.Infinite.lean ====
module
public import proofs.«01_k».proof.Proof.Ref
@[expose] public section
noncomputable section
namespace Cert.RefOf
open Idealize.ShloMosaic Idealize.SL.Sem Idealize.ShloMosaic.ValueIdx
open Cert.ReferenceIdeal Cert.Spectrum Cert.Scalars
open scoped BigOperators

/-- A real number among the extended ones. -/
def IsReal (x : EReal) : Prop := x ≠ ⊤ ∧ x ≠ ⊥

theorem IsReal.of_add {x y : EReal} (h : IsReal (x + y)) : IsReal x ∧ IsReal y := by
  obtain ⟨h1, h2⟩ := h
  induction x <;> induction y <;> simp_all [IsReal]

/-- A sum that is real has real terms. -/
theorem IsReal.of_sum {ι : Type} (s : Finset ι) (f : ι → EReal) (h : IsReal (∑ i ∈ s, f i)) : ∀ i ∈ s, IsReal (f i) := by
  classical
  induction s using Finset.induction_on with
  | empty => simp
  | insert a s ha ih =>
    rw [Finset.sum_insert ha] at h
    intro i hi
    rcases Finset.mem_insert.mp hi with rfl | hi
    · exact h.of_add.1
    · exact ih h.of_add.2 i hi

/-- A factor whose product with a real number other than zero is real is itself real. -/
theorem IsReal.of_mul {x : EReal} {c : ℝ} (hc : c ≠ 0) (h : IsReal (x * (c : EReal))) : IsReal x := by
  obtain ⟨h1, h2⟩ := h
  constructor
  · rintro rfl
    rcases lt_or_gt_of_ne hc with hc | hc
    · exact h2 (EReal.top_mul_coe_of_neg hc)
    · exact h1 (EReal.top_mul_coe_of_pos hc)
  · rintro rfl
    rcases lt_or_gt_of_ne hc with hc | hc
    · exact h1 (EReal.bot_mul_coe_of_neg hc)
    · exact h2 (EReal.bot_mul_coe_of_pos hc)

theorem square_nonneg (x : EReal) : 0 ≤ x * x := by
  induction x with
  | bot => simp
  | top => simp
  | coe x => exact_mod_cast mul_self_nonneg x

/-- A root of a sum of two squares that is not infinite has real sides. -/
theorem IsReal.of_root {x y : EReal} (h : Ideal.sqrt (x * x + y * y) ≠ ⊤) : IsReal x ∧ IsReal y := by
  have hn : x * x + y * y ≠ ⊤ := fun e => h (by rw [e]; rfl)
  have hx := square_nonneg x
  have hy := square_nonneg y
  refine ⟨⟨?_, ?_⟩, ⟨?_, ?_⟩⟩ <;> rintro rfl
  · exact hn (by rw [EReal.top_mul_top, EReal.top_add_of_ne_bot (fun e => by rw [e] at hy; simp at hy)])
  · exact hn (by rw [EReal.bot_mul_bot, EReal.top_add_of_ne_bot (fun e => by rw [e] at hy; simp at hy)])
  · exact hn (by rw [EReal.top_mul_top, EReal.add_top_of_ne_bot (fun e => by rw [e] at hx; simp at hx)])
  · exact hn (by rw [EReal.bot_mul_bot, EReal.add_top_of_ne_bot (fun e => by rw [e] at hx; simp at hx)])

/-- If one magnitude of a row is not infinite, the row's samples after the first are real numbers. -/
theorem finite_row {X : FVec Ideal S128x32768x1 .f32} {r : Fin 128} {k : Fin 32768} (h : magnitudes X (ix2 r k) ≠ ⊤)
    (n : Fin 32768) (hn : n.val ≠ 0) : IsReal (X (ix3 r n (0 : Fin 1))) := by
  unfold magnitudes at h
  rw [length_apply, neg_mul_neg] at h
  obtain ⟨hc, hs⟩ := IsReal.of_root h
  rw [times_apply] at hc hs
  have h1 := IsReal.of_sum _ _ hc n (Finset.mem_univ _)
  have h2 := IsReal.of_sum _ _ hs n (Finset.mem_univ _)
  rw [windowed_eq, cos_apply, mul_assoc, ← EReal.coe_mul] at h1
  rw [windowed_eq, sin_apply, mul_assoc, ← EReal.coe_mul] at h2
  have hw := hann_ne_zero hn n.isLt
  by_cases hz : Real.cos (2 * Real.pi * ((k.val * n.val % 32768 : ℕ) : ℝ) / 32768) = 0
  · refine h2.of_mul (mul_ne_zero hw fun hz' => ?_)
    have := Real.sin_sq_add_cos_sq (2 * Real.pi * ((k.val * n.val % 32768 : ℕ) : ℝ) / 32768)
    rw [hz, hz'] at this
    norm_num at this
  · exact h1.of_mul (mul_ne_zero hw hz)
end Cert.RefOf
end
-- ==== Proof.Pre.lean ====
module
public import proofs.«01_k».proof.Pre_eighth_is_one_frequency
public import proofs.«01_k».proof.Proof.Infinite
public import Idealize.ShloMosaic.Lib.ReduceAll
public import Idealize.ShloMosaic.Lib.StableHlo.Predicate
@[expose] public section
noncomputable section
namespace Cert.PreOf
open Idealize.ShloMosaic Idealize.SL.Sem Idealize.ShloMosaic.ValueIdx
open Cert.Pre_eighth_is_one_frequency Cert.Pre_eighth_is_one_frequency.Facts Cert.Spectrum Cert.Scalars
open Cert.RefOf (Finite IsReal times windowed)
open scoped BigOperators

theorem facts : Cert.Pre_eighth_is_one_frequency.Facts where
  shapeCasts_S128x32768x1_S128x32768 := by decide
  bcast_S_S32768x32768 := by decide
  sliceFits_S128x32768_S128x8 := by decide
  slices_S128x32768_S128x16385_0_0 := by decide
  slices_S128x8_S128x1_0_7 := by decide
  bcast_S128x1_S128x16385_0_1 := by decide
  natLt_1_32 := by decide
  h_S_ := by decide
  reducesTo_S128x16385_S128_d1 := by decide
  bcast_S_S128 := by decide
  reducesTo_S128_S_d0 := by decide
  dot_S128x32768_S32768x32768_S128x32768_1_0_0_1_n_n_wf := by decide

variable [Cert.Pre_eighth_is_one_frequency.Facts]

/-- The window, the same in each column. -/
def columns : FVec Ideal S32768x32768 .f32 :=
  mulf (broadcastInDim S32768x32768 ![] bcast_S_S32768x32768 (constant S_ .f32 0x3F000000#32))
    (subf (broadcastInDim S32768x32768 ![] bcast_S_S32768x32768 (constant S_ .f32 0x3F800000#32))
      (Host.cos (Host.divf (mulf (broadcastInDim S32768x32768 ![] bcast_S_S32768x32768 (mulf (constant S_ .f32 0x40000000#32)
          (Host.atan2 (constant S_ .f32 0x00000000#32) (constant S_ .f32 0xBF800000#32))))
        (sitofp .f32 (iotaInDim S32768x32768 32 0)))
        (broadcastInDim S32768x32768 ![] bcast_S_S32768x32768 (constant S_ .f32 0x47000000#32)))))

/-- The magnitudes from the real and imaginary parts. -/
def size (a b : FVec Ideal S128x32768 .f32) : FVec Ideal S128x32768 .f32 := Host.sqrt (addf (mulf a a) (mulf b b))

theorem size_apply (a b : FVec Ideal S128x32768 .f32) (i : S128x32768.Idx) : size a b i = Ideal.sqrt (a i * a i + b i * b i) := rfl

/-- The magnitudes the condition speaks of. -/
def mags (X : FVec Ideal S128x32768x1 .f32) : FVec Ideal S128x32768 .f32 :=
  size (times (shapeCast S128x32768 X shapeCasts_S128x32768x1_S128x32768) (mulf columns (Host.cos Cert.RefOf.angles)))
    (times (shapeCast S128x32768 X shapeCasts_S128x32768x1_S128x32768) (mulf columns (Host.sin Cert.RefOf.angles)))

/-- Where a magnitude of the lower half is the eighth greatest. -/
def ties (M : FVec Ideal S128x32768 .f32) : IVec S128x16385 1 :=
  cmpf .oeq (extractStridedSlice S128x16385 ![0, 0] M slices_S128x32768_S128x16385_0_0)
    (broadcastInDim S128x16385 ![0, 1] bcast_S128x1_S128x16385_0_1 (extractStridedSlice S128x1 ![0, 7]
      (Host.topK S128x8 1 (FloatOps.cmpfTotal .gt) M sliceFits_S128x32768_S128x8).1 slices_S128x8_S128x1_0_7))

theorem fn_eq (X : FVec Ideal S128x32768x1 .f32) : fn (F := Ideal) X =
    Host.reduce IntOp.andi (cmpi .sle (Host.reduce IntOp.addi (extui 32 (ties (mags X)) natLt_1_32) (constantI S_ 32 0#32)
      reducesTo_S128x16385_S128_d1 h_S_) (broadcastInDim S128 ![] bcast_S_S128 (constantI S_ 32 1#32)))
      (constantI S_ 1 1#1) reducesTo_S128_S_d0 h_S_ := by
  unfold fn fn_part1 fn_part2
  rfl

theorem columns_apply (n k : Fin 32768) : columns (ix2 n k) = ((hann n.val : ℝ) : EReal) := by
  rw [← hann_eq n.val (((BitVec.ofNat 32 n.val).toInt : ℝ)) (by
    rw [BitVec.toInt_eq_toNat_of_lt (by rw [BitVec.toNat_ofNat, Nat.mod_eq_of_lt (by omega)]; omega), BitVec.toNat_ofNat,
      Nat.mod_eq_of_lt (by omega)]; norm_cast)]
  rfl

theorem product_apply {s : Shape} (a b : FVec Ideal s .f32) (i : s.Idx) : mulf a b i = a i * b i := rfl

/-- A row times a windowed table is the windowed row times the table. -/
theorem times_columns (X : FVec Ideal S128x32768x1 .f32) (T : FVec Ideal S32768x32768 .f32) (r : Fin 128) (k : Fin 32768) :
    times (shapeCast S128x32768 X shapeCasts_S128x32768x1_S128x32768) (mulf columns T) (ix2 r k) = times (windowed X) T (ix2 r k) := by
  rw [Cert.RefOf.times_apply, Cert.RefOf.times_apply]
  refine Finset.sum_congr rfl fun n _ => ?_
  rw [product_apply, columns_apply, Cert.RefOf.flat_apply, ← mul_assoc, Cert.RefOf.windowed_eq]

theorem mags_apply (X : FVec Ideal S128x32768x1 .f32) (r : Fin 128) (k : Fin 32768) : mags X (ix2 r k) = Cert.RefOf.magnitudes X (ix2 r k) := by
  unfold mags Cert.RefOf.magnitudes
  rw [size_apply, Cert.RefOf.length_apply, neg_mul_neg, times_columns, times_columns]

/-- The condition speaks of the reference's magnitudes. -/
theorem mags_eq (X : FVec Ideal S128x32768x1 .f32) : mags X = Cert.RefOf.magnitudes X := by
  funext i
  rw [eq_ix2 i]
  exact mags_apply X (i 0) (i 1)

theorem lower_apply (M : FVec Ideal S128x32768 .f32) (r : Fin 128) (k : Fin 16385) (h : k.val < 32768) :
    extractStridedSlice S128x16385 ![0, 0] M slices_S128x32768_S128x16385_0_0 (ix2 r k) = M (ix2 r (⟨k.val, h⟩ : Fin 32768)) := by
  refine extractStridedSlice_apply _ _ _ _ _ fun a => ?_
  match a with
  | ⟨0, _⟩ => show r.val = 0 + r.val; omega
  | ⟨1, _⟩ => show k.val = 0 + k.val; omega

theorem eighth_apply (v : FVec Ideal S128x8 .f32) (r : Fin 128) (k : Fin 16385) :
    broadcastInDim S128x16385 ![0, 1] bcast_S128x1_S128x16385_0_1 (extractStridedSlice S128x1 ![0, 7] v slices_S128x8_S128x1_0_7) (ix2 r k)
      = v (ix2 r (7 : Fin 8)) := by
  refine (broadcastInDim_apply _ _ _ (ix2 r k) (ix2 r (0 : Fin 1)) fun a => ?_).trans
    (extractStridedSlice_apply _ _ _ _ _ fun a => ?_)
  · match a with
    | ⟨0, _⟩ => show r.val = if (128 : ℕ) = 1 then 0 else r.val; rw [if_neg (by norm_num)]
    | ⟨1, _⟩ => show 0 = if (1 : ℕ) = 1 then 0 else k.val; rw [if_pos rfl]
  · match a with
    | ⟨0, _⟩ => show r.val = 0 + r.val; omega
    | ⟨1, _⟩ => rfl

theorem ties_apply (M : FVec Ideal S128x32768 .f32) (r : Fin 128) (k : Fin 16385) (h : k.val < 32768) :
    ties M (ix2 r k) = Ideal.cmp .oeq (M (ix2 r (⟨k.val, h⟩ : Fin 32768)))
      ((Host.topK S128x8 1 (FloatOps.cmpfTotal (F := Ideal) (φ := .f32) .gt) M sliceFits_S128x32768_S128x8).1 (ix2 r (7 : Fin 8))) :=
  congrArg₂ (fun u w : EReal => Ideal.cmp .oeq u w) (lower_apply M r k h) (eighth_apply _ r k)

theorem values_eq (X : FVec Ideal S128x32768x1 .f32) :
    (Host.topK S128x8 1 (FloatOps.cmpfTotal (F := Ideal) (φ := .f32) .gt) (Cert.RefOf.magnitudes X) sliceFits_S128x32768_S128x8).1
      = Cert.RefOf.values X := rfl

theorem cmp_oeq_self {x y : EReal} (h : x = y) : Ideal.cmp .oeq x y = 1#1 := by
  subst h
  unfold Ideal.cmp
  simp

/-- The condition read: two frequencies of the lower half whose magnitudes are both the eighth greatest are one frequency. -/
theorem unique {X : FVec Ideal S128x32768x1 .f32} (h : fn (F := Ideal) X = fun _ => 1#1) (r : Fin 128) (i j : Fin 32768)
    (hi : i.val ≤ 16384) (hj : j.val ≤ 16384) (ei : Cert.RefOf.magnitudes X (ix2 r i) = Cert.RefOf.values X (ix2 r (7 : Fin 8)))
    (ej : Cert.RefOf.magnitudes X (ix2 r j) = Cert.RefOf.values X (ix2 r (7 : Fin 8))) : i = j := by
  rw [fn_eq] at h
  have h2 := congrFun h ix0
  have h3 := IntOp.cmpi_sle.mp (Host.reduce_andi_all _ _ _ _ ix0 h2 (ix1 r))
  have h4 := StableHlo.Predicate.toNat_reduce_count_cols (by norm_num) (ties (mags X)) natLt_1_32 reducesTo_S128x16385_S128_d1 h_S_ (ix1 r)
  have h5 : (Finset.univ.filter (fun q : Fin 16385 => ties (mags X) (ix2 r q) = 1#1)).card ≤ 1 := by
    have h6 : (Finset.univ.filter (fun q : Fin 16385 => ties (mags X) (ix2 r q) = 1#1)).card ≤ 16385 :=
      (Finset.card_le_univ _).trans (by rw [Fintype.card_fin])
    have h7 : (Host.reduce IntOp.addi (extui 32 (ties (mags X)) natLt_1_32) (constantI S_ 32 0#32) reducesTo_S128x16385_S128_d1 h_S_ (ix1 r)).toNat
      = (Finset.univ.filter (fun q : Fin 16385 => ties (mags X) (ix2 r q) = 1#1)).card := h4
    have h8 : (Host.reduce IntOp.addi (extui 32 (ties (mags X)) natLt_1_32) (constantI S_ 32 0#32) reducesTo_S128x16385_S128_d1 h_S_ (ix1 r)).toInt ≤ 1 := h3
    rw [BitVec.toInt_eq_toNat_of_lt (by rw [h7]; omega), h7] at h8
    exact_mod_cast h8
  rw [mags_eq X] at h5
  have key : ∀ k : Fin 32768, (hk : k.val ≤ 16384) → Cert.RefOf.magnitudes X (ix2 r k) = Cert.RefOf.values X (ix2 r (7 : Fin 8)) →
      (⟨k.val, by omega⟩ : Fin 16385) ∈ Finset.univ.filter (fun q : Fin 16385 => ties (Cert.RefOf.magnitudes X) (ix2 r q) = 1#1) := by
    intro k hk e
    rw [Finset.mem_filter]
    refine ⟨Finset.mem_univ _, ?_⟩
    rw [ties_apply _ _ _ k.isLt, values_eq]
    exact cmp_oeq_self e
  have := Finset.card_le_one.mp h5 _ (key i hi ei) _ (key j hj ej)
  exact Fin.ext (Fin.mk.inj_iff.mp this)

/-- The condition holds of no row with an infinite sample after the first: all its magnitudes would be infinite. -/
theorem finite {X : FVec Ideal S128x32768x1 .f32} (h : fn (F := Ideal) X = fun _ => 1#1) : Finite X := by
  intro r n hn
  by_cases hall : ∀ k : Fin 32768, Cert.RefOf.magnitudes X (ix2 r k) = ⊤
  · have h7 : Cert.RefOf.values X (ix2 r (7 : Fin 8)) = ⊤ := (Cert.RefOf.values_apply X r 7).trans (hall _)
    have h01 := unique h r 0 1 (by decide) (by decide) ((hall 0).trans h7.symm) ((hall 1).trans h7.symm)
    exact absurd (congrArg Fin.val h01) (by decide)
  · obtain ⟨k, hk⟩ := not_forall.mp hall
    exact Cert.RefOf.finite_row hk n hn
end Cert.PreOf
end
-- ==== Proof.Row.lean ====
module
public import proofs.«01_k».proof.Proof.Gen.KernelIdeal.Frame
@[expose] public section
noncomputable section
namespace Cert.RowOf
open Idealize.ShloMosaic Idealize.SL.Sem
open Cert.KernelIdeal Cert.KernelIdeal.Gen
variable {F : FTy → Type} [FloatOps F] [Named F]

/-- A 128 x 128 array of floats. -/
abbrev Arr (F : FTy → Type) := FVec F S128x128 .f32

/-- The product of two 128 x 128 arrays. -/
def dot (a b : Arr F) : Arr F :=
  matmul dot_S128x128_S128x128_S128x128_1_0_0_1_n_n (some .fp32) a b (constant S128x128 .f32 0x00000000#32)

/-- The real part of the half transform of `br + i bi`. -/
def halfRe (br bi wr wi fr fi : Arr F) : Arr F :=
  subf (dot (subf (mulf br wr) (mulf bi wi)) fr) (dot (addf (mulf br wi) (mulf bi wr)) fi)

/-- Its imaginary part. -/
def halfIm (br bi wr wi fr fi : Arr F) : Arr F :=
  addf (dot (subf (mulf br wr) (mulf bi wi)) fi) (dot (addf (mulf br wi) (mulf bi wr)) fr)

/-- A float word times an array. -/
def scale (b : BitVec 32) (x : Arr F) : Arr F := mulf (broadcast S128x128 (Scalar.ofBits .f32 b)) x

/-- The squared magnitudes from the half transforms' parts. -/
def combine (yr yi gr gi hr hi : Arr F) : Arr F :=
  addf
    (mulf (subf (addf (scale 0x3F000000#32 (addf yr gr)) (mulf hr (scale 0x3F000000#32 (subf yi gi))))
        (mulf hi (scale 0xBF000000#32 (subf yr gr))))
      (subf (addf (scale 0x3F000000#32 (addf yr gr)) (mulf hr (scale 0x3F000000#32 (subf yi gi))))
        (mulf hi (scale 0xBF000000#32 (subf yr gr)))))
    (mulf (addf (addf (scale 0x3F000000#32 (addf yi gi)) (mulf hr (scale 0xBF000000#32 (subf yr gr))))
        (mulf hi (scale 0x3F000000#32 (subf yi gi))))
      (addf (addf (scale 0x3F000000#32 (addf yi gi)) (mulf hr (scale 0xBF000000#32 (subf yr gr))))
        (mulf hi (scale 0x3F000000#32 (subf yi gi)))))

/-- A row's squared magnitudes at the frequencies below 16384, from its windowed even and odd samples. -/
def squares (ye yo fr fi wr wi hr hi : Arr F) : Arr F :=
  combine
    (halfRe (subf (dot fr ye) (dot fi yo)) (addf (dot fr yo) (dot fi ye)) wr wi fr fi)
    (halfIm (subf (dot fr ye) (dot fi yo)) (addf (dot fr yo) (dot fi ye)) wr wi fr fi)
    (halfRe (addf (dot fr ye) (dot fi yo)) (subf (dot fi ye) (dot fr yo)) wr wi fr fi)
    (halfIm (addf (dot fr ye) (dot fi yo)) (subf (dot fi ye) (dot fr yo)) wr wi fr fi)
    hr hi

/-- The sum of the even samples less the odd ones. -/
def nyquist (ye yo : Arr F) : F .f32 :=
  extractAt ![0, 0, 0] (shapeCast S1x1x1 (multiReduction .add [1, 2] S1
    (shapeCast S1x128x128 (subf ye yo) shapeCasts_S128x128_S1x128x128) 0x00000000#32 reduces_S1x128x128_S1 (.inl rfl) rfl)
    shapeCasts_S1_S1x1x1) inpos_S1x1x1_p0_0_0

/-- The greatest element of an array. -/
def greatest (m : Arr F) : F .f32 :=
  extractAt ![0, 0, 0] (shapeCast S1x1x1 (multiReduction .maximumf [1, 2] S1
    (shapeCast S1x128x128 m shapeCasts_S128x128_S1x128x128) 0xFF800000#32 reduces_S1x128x128_S1 (.inl rfl) rfl)
    shapeCasts_S1_S1x1x1) inpos_S1x1x1_p0_0_0

/-- The places of a 128 x 128 array numbered row by row. -/
def place : IVec S128x128 32 :=
  addi (muli (iota .tc S128x128 32 [0] iota_S128x128_d0_w32) (broadcast S128x128 128#32))
    (iota .tc S128x128 32 [1] iota_S128x128_d1_w32)

/-- The first place that holds the greatest element. -/
def first (m : Arr F) : BitVec 32 :=
  extractAt ![0, 0, 0] (shapeCast S1x1x1 (multiReductionI .minsi [1, 2] S1
    (shapeCast S1x128x128 (select (cmpf .oeq m (broadcast S128x128 (greatest m))) place (broadcast S128x128 1073741824#32))
      shapeCasts_S128x128_S1x128x128) 2147483647#32 reduces_S1x128x128_S1 rfl)
    shapeCasts_S1_S1x1x1) inpos_S1x1x1_p0_0_0

/-- What a round of the selection reads: the squared magnitudes below 16384, that at 16384, the places left. -/
structure St (F : FTy → Type) where
  m : Arr F
  n : F .f32
  s : BitVec 32

/-- Whether the frequency 16384 holds more than all others. -/
def St.high (t : St F) : BitVec 1 := Scalar.cmpf .ogt t.n (greatest t.m)

/-- How many places the round takes. -/
def St.take (t : St F) : BitVec 32 :=
  Scalar.minsi (Scalar.select (Scalar.ori t.high (Scalar.cmpi .eq (first t.m) 0#32)) 1#32 2#32) t.s

/-- The frequency it picks. -/
def St.freq (t : St F) : BitVec 32 :=
  Scalar.select t.high 16384#32
    (Scalar.addi (Scalar.shrsi (first t.m) 7#32) (Scalar.shli (Scalar.andi (first t.m) 127#32) 7#32))

/-- The cosine's coefficient. -/
def St.coef (t : St F) : F .f32 :=
  Scalar.mulf (Scalar.sitofp .f32 t.take) (Scalar.sqrt (Scalar.select t.high t.n (greatest t.m)))

/-- The state after the round: what was picked holds -1. -/
def St.next (t : St F) : St F where
  m := select (andi (cmpi .eq place (broadcast S128x128 (first t.m))) (broadcast S128x128 (Scalar.xori t.high 1#1)))
    (broadcast S128x128 (Scalar.ofBits .f32 0xBF800000#32)) t.m
  n := Scalar.select t.high (Scalar.ofBits .f32 0xBF800000#32) t.n
  s := Scalar.subi t.s t.take

/-- The columns of the pair `j`. -/
def pairCol (j : BitVec 32) : IVec S1x10 1 :=
  cmpi .eq (shrsi (iota .tc S1x10 32 [1] iota_S1x10_d1_w32) (broadcast S1x10 1#32)) (broadcast S1x10 j)

def pairRow (j : BitVec 32) : IVec S10x1 1 :=
  cmpi .eq (shrsi (iota .tc S10x1 32 [0] iota_S10x1_d0_w32) (broadcast S10x1 1#32)) (broadcast S10x1 j)

/-- Five frequencies, each in two columns. -/
def freqCols (k : Fin 5 → BitVec 32) : IVec S1x10 32 :=
  select (pairCol 4#32) (broadcast S1x10 (k 4)) (select (pairCol 3#32) (broadcast S1x10 (k 3))
    (select (pairCol 2#32) (broadcast S1x10 (k 2)) (select (pairCol 1#32) (broadcast S1x10 (k 1))
      (select (pairCol 0#32) (broadcast S1x10 (k 0)) (broadcast S1x10 0#32)))))

def freqRows (k : Fin 5 → BitVec 32) : IVec S10x1 32 :=
  select (pairRow 4#32) (broadcast S10x1 (k 4)) (select (pairRow 3#32) (broadcast S10x1 (k 3))
    (select (pairRow 2#32) (broadcast S10x1 (k 2)) (select (pairRow 1#32) (broadcast S10x1 (k 1))
      (select (pairRow 0#32) (broadcast S10x1 (k 0)) (broadcast S10x1 0#32)))))

def coefCols (c : Fin 5 → F .f32) : FVec F S1x10 .f32 :=
  select (pairCol 4#32) (broadcast S1x10 (c 4)) (select (pairCol 3#32) (broadcast S1x10 (c 3))
    (select (pairCol 2#32) (broadcast S1x10 (c 2)) (select (pairCol 1#32) (broadcast S1x10 (c 1))
      (select (pairCol 0#32) (broadcast S1x10 (c 0)) (broadcast S1x10 (Scalar.ofBits .f32 0x00000000#32))))))

/-- The angles of the 128 groups of samples at the columns' frequencies. -/
def angleA (k : IVec S1x10 32) : FVec F S128x10 .f32 :=
  mulf (sitofp .f32 (andi (muli
    (broadcastTo S128x10 (muli (iota .tc S128x1 32 [0] iota_S128x1_d0_w32) (broadcast S128x1 256#32)) broadcasts_S128x1_S128x10)
    (broadcastTo S128x10 k broadcasts_S1x10_S128x10)) (broadcast S128x10 32767#32)))
    (broadcast S128x10 (Named.named κ "rad" 0x39490FDB#32))

/-- The angles of the 256 samples of a group at the rows' frequencies. -/
def angleB (k : IVec S10x1 32) : FVec F S10x256 .f32 :=
  mulf (sitofp .f32 (andi (muli (broadcastTo S10x256 k broadcasts_S10x1_S10x256)
    (broadcastTo S10x256 (iota .tc S1x256 32 [1] iota_S1x256_d1_w32) broadcasts_S1x256_S10x256))
    (broadcast S10x256 32767#32))) (broadcast S10x256 (Named.named κ "rad" 0x39490FDB#32))

def left (c : FVec F S1x10 .f32) (a : FVec F S128x10 .f32) : FVec F S128x10 .f32 :=
  select (broadcastTo S128x10 (shapeCast S1x10 (cmpi .eq (andi (iota .tc S1x10 32 [1] iota_S1x10_d1_w32) (broadcast S1x10 1#32))
      (broadcast S1x10 0#32)) shapeCasts_S1x10_S1x10) broadcasts_S1x10_S128x10)
    (mulf (broadcastTo S128x10 c broadcasts_S1x10_S128x10) (cos a))
    (mulf (broadcastTo S128x10 (subf (broadcast S1x10 (Scalar.ofBits .f32 0x00000000#32)) c) broadcasts_S1x10_S128x10) (sin a))

def right (b : FVec F S10x256 .f32) : FVec F S10x256 .f32 :=
  select (broadcastTo S10x256 (shapeCast S10x1 (cmpi .eq (andi (iota .tc S10x1 32 [0] iota_S10x1_d0_w32) (broadcast S10x1 1#32))
      (broadcast S10x1 0#32)) shapeCasts_S10x1_S10x1) broadcasts_S10x1_S10x256)
    (cos b) (sin b)

/-- A row of the result: the sum of the five cosines, over 32768. -/
def wavesOf (k : Fin 5 → BitVec 32) (c : Fin 5 → F .f32) : FVec F S128x256 .f32 :=
  mulf (matmul dot_S128x10_S10x256_S128x256_1_0_0_1_n_n (some .fp32) (left (coefCols c) (angleA (freqCols k)))
      (right (angleB (freqRows k))) (constant S128x256 .f32 0x00000000#32))
    (broadcast S128x256 (Scalar.ofBits .f32 0x38000000#32))

/-- The states before the five rounds. -/
def states (t : St F) : Fin 5 → St F :=
  ![t, t.next, t.next.next, t.next.next.next, t.next.next.next.next]

/-- A row of the result from its squared magnitudes. -/
def select8 (m : Arr F) (n : F .f32) : FVec F S128x256 .f32 :=
  wavesOf (fun j => (states ⟨m, n, 8#32⟩ j).freq) (fun j => (states ⟨m, n, 8#32⟩ j).coef)

/-- A row of the result from its even and odd samples. -/
def rowOut (xe xo : Vec F S1x128x128 .f32) (we wo fr fi wr wi hr hi : Vec F S128x128 .f32) : FVec F S128x256 .f32 :=
  select8
    (squares (mulf (shapeCast S128x128 xe shapeCasts_S1x128x128_S128x128) (shapeCast S128x128 we shapeCasts_S128x128_S128x128))
      (mulf (shapeCast S128x128 xo shapeCasts_S1x128x128_S128x128) (shapeCast S128x128 wo shapeCasts_S128x128_S128x128))
      (shapeCast S128x128 fr shapeCasts_S128x128_S128x128) (shapeCast S128x128 fi shapeCasts_S128x128_S128x128)
      (shapeCast S128x128 wr shapeCasts_S128x128_S128x128) (shapeCast S128x128 wi shapeCasts_S128x128_S128x128)
      (shapeCast S128x128 hr shapeCasts_S128x128_S128x128) (shapeCast S128x128 hi shapeCasts_S128x128_S128x128))
    (Scalar.mulf
      (nyquist (mulf (shapeCast S128x128 xe shapeCasts_S1x128x128_S128x128) (shapeCast S128x128 we shapeCasts_S128x128_S128x128))
        (mulf (shapeCast S128x128 xo shapeCasts_S1x128x128_S128x128) (shapeCast S128x128 wo shapeCasts_S128x128_S128x128)))
      (nyquist (mulf (shapeCast S128x128 xe shapeCasts_S1x128x128_S128x128) (shapeCast S128x128 we shapeCasts_S128x128_S128x128))
        (mulf (shapeCast S128x128 xo shapeCasts_S1x128x128_S128x128) (shapeCast S128x128 wo shapeCasts_S128x128_S128x128))))

end Cert.RowOf
end
-- ==== Proof.Piece.lean ====
module
public import proofs.«01_k».proof.Proof.Row
@[expose] public section
noncomputable section
namespace Cert.RowOf
open Idealize.ShloMosaic Idealize.SL.Sem
open Cert.KernelIdeal Cert.KernelIdeal.Gen
variable {F : FTy → Type} [FloatOps F] [Named F]
variable (x0 x1 : Vec F S4x128x128 .f32) (x2 x3 x4 x5 x6 x7 x8 x9 : Vec F S128x128 .f32)

/-- What the block's body leaves: each of the four rows from its samples and the tables. -/
theorem out_eq : out0_10 x0 x1 x2 x3 x4 x5 x6 x7 x8 x9 = View.canon
    [⟨r0_8, shapeCast S1x128x256 (rowOut (View.ld x0 r0_4) (View.ld x1 r0_4) (View.ld x2 r0_0) (View.ld x3 r0_0) (View.ld x4 r0_0)
        (View.ld x5 r0_0) (View.ld x6 r0_0) (View.ld x7 r0_0) (View.ld x8 r0_0) (View.ld x9 r0_0)) shapeCasts_S128x256_S1x128x256⟩,
      ⟨r0_7, shapeCast S1x128x256 (rowOut (View.ld x0 r0_3) (View.ld x1 r0_3) (View.ld x2 r0_0) (View.ld x3 r0_0) (View.ld x4 r0_0)
        (View.ld x5 r0_0) (View.ld x6 r0_0) (View.ld x7 r0_0) (View.ld x8 r0_0) (View.ld x9 r0_0)) shapeCasts_S128x256_S1x128x256⟩,
      ⟨r0_6, shapeCast S1x128x256 (rowOut (View.ld x0 r0_2) (View.ld x1 r0_2) (View.ld x2 r0_0) (View.ld x3 r0_0) (View.ld x4 r0_0)
        (View.ld x5 r0_0) (View.ld x6 r0_0) (View.ld x7 r0_0) (View.ld x8 r0_0) (View.ld x9 r0_0)) shapeCasts_S128x256_S1x128x256⟩,
      ⟨r0_5, shapeCast S1x128x256 (rowOut (View.ld x0 r0_1) (View.ld x1 r0_1) (View.ld x2 r0_0) (View.ld x3 r0_0) (View.ld x4 r0_0)
        (View.ld x5 r0_0) (View.ld x6 r0_0) (View.ld x7 r0_0) (View.ld x8 r0_0) (View.ld x9 r0_0)) shapeCasts_S128x256_S1x128x256⟩] := by
  unfold out0_10
  rfl
end Cert.RowOf
-- ==== Proof.Blocks.lean ====
module
public import proofs.«01_k».proof.Proof.Gen.KernelIdeal.Value
public import proofs.«01_k».proof.Proof.Piece
public import Idealize.ShloMosaic.PureOps.Ideal
public import Idealize.ShloMosaic.Lib.ValueLayout
@[expose] public section
noncomputable section
namespace Cert.RowOf
open Idealize.ShloMosaic Idealize.ShloMosaic.TcCoe Idealize.SL.Sem Idealize.ShloMosaic.ValueIdx
open Idealize.ShloMosaic.Pipeline (Dat)
open Cert.KernelIdeal Cert.KernelIdeal.Gen
variable {F : FTy → Type} [FloatOps F] [Named F]

/-- One row of a block of four. -/
def rowIn (x : Vec F S4x128x128 .f32) (q : Fin 4) : Vec F S1x128x128 .f32 := fun j => x (ix3 q (j 1) (j 2))

/-- The block of four rows of the result. -/
def blockOut (x0 x1 : Vec F S4x128x128 .f32) (x2 x3 x4 x5 x6 x7 x8 x9 : Vec F S128x128 .f32) : Vec F S4x128x256 .f32 :=
  fun y => rowOut (rowIn x0 (y 0)) (rowIn x1 (y 0)) x2 x3 x4 x5 x6 x7 x8 x9 (ix2 (y 1) (y 2))

theorem ld_row (x : Vec F S4x128x128 .f32) (q : Fin 4) (inb : ∀ a, (![q.val, 0, 0] : Fin 3 → ℕ) a + S1x128x128.size a ≤ S4x128x128.size a) :
    View.ld x (Rect.unit (s := S4x128x128) ![q.val, 0, 0] S1x128x128.size inb) = rowIn x q := by
  rw [View.ld_unit]
  funext j
  refine congrArg x (funext fun a => Fin.ext ?_)
  have h0 : (j 0 : ℕ) < 1 := (j 0).isLt
  match a with
  | ⟨0, _⟩ => show q.val + (j 0).val = q.val; omega
  | ⟨1, _⟩ => show 0 + (j 1).val = (j 1).val; omega
  | ⟨2, _⟩ => show 0 + (j 2).val = (j 2).val; omega

theorem two_zeros : (![0, 0] : Fin 2 → ℕ) = fun _ => 0 := funext fun a => by fin_cases a <;> rfl

theorem ld_all (x : Vec F S128x128 .f32) : View.ld x r0_0 = x := View.ld_unit_zero two_zeros _ x

theorem blockOut_apply (x0 x1 : Vec F S4x128x128 .f32) (x2 x3 x4 x5 x6 x7 x8 x9 : Vec F S128x128 .f32) {y : S4x128x256.Idx}
    {q : Fin 4} {a : Fin 128} {b : Fin 256} (h : y = ix3 q a b) :
    blockOut x0 x1 x2 x3 x4 x5 x6 x7 x8 x9 y = rowOut (rowIn x0 q) (rowIn x1 q) x2 x3 x4 x5 x6 x7 x8 x9 (ix2 a b) := by
  subst h
  unfold blockOut
  rfl

theorem one_row (w : Vec F S128x256 .f32) (j : S1x128x256.Idx) :
    shapeCast S1x128x256 w shapeCasts_S128x256_S1x128x256 j = w (ix2 (j 1 : Fin 128) (j 2 : Fin 256)) := by
  refine shapeCast_apply _ _ j (ix2 (j 1 : Fin 128) (j 2 : Fin 256)) ?_
  have h0 : (j 0 : ℕ) < 1 := (j 0).isLt
  rw [Shape.rowMajor_val_two, Shape.rowMajor_val_three]
  show (j 1).val * 256 + (j 2).val = ((j 0).val * 128 + (j 1).val) * 256 + (j 2).val
  omega

theorem emb_row (q : Fin 4) (inb : ∀ a, (![q.val, 0, 0] : Fin 3 → ℕ) a + S1x128x256.size a ≤ S4x128x256.size a) (j : S1x128x256.Idx) :
    (Rect.unit (s := S4x128x256) ![q.val, 0, 0] S1x128x256.size inb).emb j = (ix3 q (j 1 : Fin 128) (j 2 : Fin 256) : S4x128x256.Idx) := by
  have h0 : (j 0 : ℕ) < 1 := (j 0).isLt
  funext a
  refine Fin.ext ?_
  match a with
  | ⟨0, _⟩ => show q.val + 1 * (j 0).val = q.val; omega
  | ⟨1, _⟩ => show 0 + 1 * (j 1).val = (j 1).val; omega
  | ⟨2, _⟩ => show 0 + 1 * (j 2).val = (j 2).val; omega

theorem piece_apply (x0 x1 : Vec F S4x128x128 .f32) (x2 x3 x4 x5 x6 x7 x8 x9 : Vec F S128x128 .f32) (q : Fin 4)
    (inb : ∀ a, (![q.val, 0, 0] : Fin 3 → ℕ) a + S1x128x256.size a ≤ S4x128x256.size a) (j : S1x128x256.Idx) :
    shapeCast S1x128x256 (rowOut (rowIn x0 q) (rowIn x1 q) x2 x3 x4 x5 x6 x7 x8 x9) shapeCasts_S128x256_S1x128x256 j
      = blockOut x0 x1 x2 x3 x4 x5 x6 x7 x8 x9 ((Rect.unit (s := S4x128x256) ![q.val, 0, 0] S1x128x256.size inb).emb j) :=
  (one_row _ j).trans (blockOut_apply x0 x1 x2 x3 x4 x5 x6 x7 x8 x9 (emb_row q inb j)).symm

theorem block_eq (x0 x1 : Vec F S4x128x128 .f32) (x2 x3 x4 x5 x6 x7 x8 x9 : Vec F S128x128 .f32) :
    out0_10 x0 x1 x2 x3 x4 x5 x6 x7 x8 x9 = blockOut x0 x1 x2 x3 x4 x5 x6 x7 x8 x9 := by
  rw [out_eq]
  simp only [ld_all]
  rw [show View.ld x0 r0_4 = rowIn x0 3 from ld_row x0 3 _, show View.ld x0 r0_3 = rowIn x0 2 from ld_row x0 2 _,
    show View.ld x0 r0_2 = rowIn x0 1 from ld_row x0 1 _, show View.ld x0 r0_1 = rowIn x0 0 from ld_row x0 0 _,
    show View.ld x1 r0_4 = rowIn x1 3 from ld_row x1 3 _, show View.ld x1 r0_3 = rowIn x1 2 from ld_row x1 2 _,
    show View.ld x1 r0_2 = rowIn x1 1 from ld_row x1 1 _, show View.ld x1 r0_1 = rowIn x1 0 from ld_row x1 0 _]
  funext y
  refine View.canon_apply_of_pieces _ _ ?_ y ?_
  · intro p hp j
    simp only [List.mem_cons, List.not_mem_nil, or_false] at hp
    rcases hp with rfl | rfl | rfl | rfl
    · exact piece_apply x0 x1 x2 x3 x4 x5 x6 x7 x8 x9 3 (by decide) j
    · exact piece_apply x0 x1 x2 x3 x4 x5 x6 x7 x8 x9 2 (by decide) j
    · exact piece_apply x0 x1 x2 x3 x4 x5 x6 x7 x8 x9 1 (by decide) j
    · exact piece_apply x0 x1 x2 x3 x4 x5 x6 x7 x8 x9 0 (by decide) j
  · have hy0 : (y 0 : ℕ) < 4 := (y 0).isLt
    have key : ∀ q : ℕ, (y 0 : ℕ) = q → ∀ inb, y ∈ (Rect.unit (s := S4x128x256) ![q, 0, 0] S1x128x256.size inb).set := by
      intro q hq inb
      rw [Rect.mem_set_unit]
      intro a
      match a with
      | ⟨0, _⟩ => show q ≤ (y 0).val ∧ (y 0).val < q + 1; omega
      | ⟨1, _⟩ => have : (y 1 : ℕ) < 128 := (y 1).isLt
                  show 0 ≤ (y 1).val ∧ (y 1).val < 0 + 128; omega
      | ⟨2, _⟩ => have : (y 2 : ℕ) < 256 := (y 2).isLt
                  show 0 ≤ (y 2).val ∧ (y 2).val < 0 + 256; omega
    have h4 : (y 0 : ℕ) = 3 ∨ (y 0 : ℕ) = 2 ∨ (y 0 : ℕ) = 1 ∨ (y 0 : ℕ) = 0 := by omega
    rcases h4 with h | h | h | h
    · exact ⟨_, List.mem_cons_self, key 3 h (by decide)⟩
    · exact ⟨_, List.mem_cons_of_mem _ List.mem_cons_self, key 2 h (by decide)⟩
    · exact ⟨_, List.mem_cons_of_mem _ (List.mem_cons_of_mem _ List.mem_cons_self), key 1 h (by decide)⟩
    · exact ⟨_, List.mem_cons_of_mem _ (List.mem_cons_of_mem _ (List.mem_cons_of_mem _ List.mem_cons_self)), key 0 h (by decide)⟩
end Cert.RowOf
end
-- ==== Proof.Whole.lean ====
module
public import proofs.«01_k».proof.Proof.Blocks
@[expose] public section
noncomputable section
namespace Cert.RowOf
open Idealize.ShloMosaic Idealize.ShloMosaic.TcCoe Idealize.SL.Sem Idealize.ShloMosaic.ValueIdx
open Idealize.ShloMosaic.Pipeline (Dat)
open Cert.KernelIdeal Cert.KernelIdeal.Gen
variable {F : FTy → Type} [FloatOps F] [Named F]

/-- A row of samples. -/
def rowAt (X : Vec F S128x128x128 .f32) (r : Fin 128) : Vec F S1x128x128 .f32 := fun j => X (ix3 r (j 1) (j 2))

/-- The result's array, row by row. -/
def whole (X0 X1 : Vec F S128x128x128 .f32) (x2 x3 x4 x5 x6 x7 x8 x9 : Vec F S128x128 .f32) : Vec F S128x128x256 .f32 :=
  fun i => rowOut (rowAt X0 (i 0)) (rowAt X1 (i 0)) x2 x3 x4 x5 x6 x7 x8 x9 (ix2 (i 1) (i 2))

theorem whole_apply (X0 X1 : Vec F S128x128x128 .f32) (x2 x3 x4 x5 x6 x7 x8 x9 : Vec F S128x128 .f32) {i : S128x128x256.Idx}
    {r a : Fin 128} {b : Fin 256} (h : i = ix3 r a b) :
    whole X0 X1 x2 x3 x4 x5 x6 x7 x8 x9 i = rowOut (rowAt X0 r) (rowAt X1 r) x2 x3 x4 x5 x6 x7 x8 x9 (ix2 a b) := by
  subst h
  unfold whole
  rfl

/-- Four rows of samples, from row `4 t`. -/
def four (X : Vec F S128x128x128 .f32) (t : Fin 32) : Vec F S4x128x128 .f32 :=
  fun y => X (ix3 (⟨4 * t.val + (y 0).val, by have := t.isLt; have : (y 0).val < 4 := (y 0).isLt; omega⟩ : Fin 128) (y 1) (y 2))

theorem rowIn_four (X : Vec F S128x128x128 .f32) (t : Fin 32) (q : Fin 4) (r : Fin 128) (h : r.val = 4 * t.val + q.val) :
    rowIn (four X t) q = rowAt X r := by
  unfold rowIn rowAt four
  funext j
  exact congrArg (fun k : Fin 128 => X (ix3 k (j 1) (j 2))) (Fin.ext h.symm)

/-- A block of the whole array. -/
theorem blockOut_four (X0 X1 : Vec F S128x128x128 .f32) (x2 x3 x4 x5 x6 x7 x8 x9 : Vec F S128x128 .f32) (t : Fin 32)
    (y : S4x128x256.Idx) {i : S128x128x256.Idx} (hi0 : (i 0).val = 4 * t.val + (y 0).val) (hi1 : (i 1).val = (y 1).val)
    (hi2 : (i 2).val = (y 2).val) :
    blockOut (four X0 t) (four X1 t) x2 x3 x4 x5 x6 x7 x8 x9 y = whole X0 X1 x2 x3 x4 x5 x6 x7 x8 x9 i := by
  rw [blockOut_apply _ _ _ _ _ _ _ _ _ _ (eq_ix3 y), whole_apply _ _ _ _ _ _ _ _ _ _ (eq_ix3 i)]
  rw [rowIn_four X0 t (y 0) (i 0) hi0, rowIn_four X1 t (y 0) (i 0) hi0]
  exact congrArg _ (congrArg₂ ix2 (Fin.ext hi1.symm) (Fin.ext hi2.symm))

variable (m : (ℓ : Loc nD τ sig) → Buf (Elt F) ℓ) (c : Dev nD)

/-- A grid point's number. -/
def point (t : Fin cfg0.N) : Fin 32 := ⟨t.val, N_0 ▸ t.isLt⟩

theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem index10 : ∀ t : Fin cfg0.N, win0_10.index t 0 = t.val ∧ win0_10.index t 1 = 0 ∧ win0_10.index t 2 = 0 :=
  (by decide +kernel : ∀ t : Fin grid0.N, win0_10.index t 0 = t.val ∧ win0_10.index t 1 = 0 ∧ win0_10.index t 2 = 0)

theorem iblk0 (t : Fin cfg0.N) : iblk m c 0 t = four (V m c main_v2) (point t) := by
  unfold iblk four
  funext y
  show V m c main_v2 (((cfg0.win 0).blk t).view.emb y) = V m c main_v2 _
  refine congrArg (V m c main_v2) (funext fun a => Fin.ext ?_)
  obtain ⟨h0, h1, h2⟩ := index0 t
  match a with
  | ⟨0, _⟩ => show win0_0.index t 0 * 4 + 1 * (y 0).val = 4 * t.val + (y 0).val; rw [h0]; omega
  | ⟨1, _⟩ => show win0_0.index t 1 * 128 + 1 * (y 1).val = (y 1).val; rw [h1]; omega
  | ⟨2, _⟩ => show win0_0.index t 2 * 128 + 1 * (y 2).val = (y 2).val; rw [h2]; omega

theorem iblk1 (t : Fin cfg0.N) : iblk m c 1 t = four (V m c main_v3) (point t) := by
  unfold iblk four
  funext y
  show V m c main_v3 (((cfg0.win 1).blk t).view.emb y) = V m c main_v3 _
  refine congrArg (V m c main_v3) (funext fun a => Fin.ext ?_)
  obtain ⟨h0, h1, h2⟩ := index1 t
  match a with
  | ⟨0, _⟩ => show win0_1.index t 0 * 4 + 1 * (y 0).val = 4 * t.val + (y 0).val; rw [h0]; omega
  | ⟨1, _⟩ => show win0_1.index t 1 * 128 + 1 * (y 1).val = (y 1).val; rw [h1]; omega
  | ⟨2, _⟩ => show win0_1.index t 2 * 128 + 1 * (y 2).val = (y 2).val; rw [h2]; omega

theorem iblk2 (t : Fin cfg0.N) : iblk m c 2 t = V m c main_v22 := by
  unfold iblk
  funext y
  show V m c main_v22 (((cfg0.win 2).blk t).view.emb y) = V m c main_v22 y
  refine congrArg (V m c main_v22) (funext fun a => Fin.ext ?_)
  have h : win0_2.index t 0 = 0 ∧ win0_2.index t 1 = 0 := ⟨rfl, rfl⟩
  match a with
  | ⟨0, _⟩ => show win0_2.index t 0 * 128 + 1 * (y 0).val = (y 0).val; rw [h.1]; omega
  | ⟨1, _⟩ => show win0_2.index t 1 * 128 + 1 * (y 1).val = (y 1).val; rw [h.2]; omega

theorem iblk3 (t : Fin cfg0.N) : iblk m c 3 t = V m c main_v34 := by
  unfold iblk
  funext y
  show V m c main_v34 (((cfg0.win 3).blk t).view.emb y) = V m c main_v34 y
  refine congrArg (V m c main_v34) (funext fun a => Fin.ext ?_)
  have h : win0_3.index t 0 = 0 ∧ win0_3.index t 1 = 0 := ⟨rfl, rfl⟩
  match a with
  | ⟨0, _⟩ => show win0_3.index t 0 * 128 + 1 * (y 0).val = (y 0).val; rw [h.1]; omega
  | ⟨1, _⟩ => show win0_3.index t 1 * 128 + 1 * (y 1).val = (y 1).val; rw [h.2]; omega

theorem iblk4 (t : Fin cfg0.N) : iblk m c 4 t = V m c main_v55 := by
  unfold iblk
  funext y
  show V m c main_v55 (((cfg0.win 4).blk t).view.emb y) = V m c main_v55 y
  refine congrArg (V m c main_v55) (funext fun a => Fin.ext ?_)
  have h : win0_4.index t 0 = 0 ∧ win0_4.index t 1 = 0 := ⟨rfl, rfl⟩
  match a with
  | ⟨0, _⟩ => show win0_4.index t 0 * 128 + 1 * (y 0).val = (y 0).val; rw [h.1]; omega
  | ⟨1, _⟩ => show win0_4.index t 1 * 128 + 1 * (y 1).val = (y 1).val; rw [h.2]; omega

theorem iblk5 (t : Fin cfg0.N) : iblk m c 5 t = V m c main_v57 := by
  unfold iblk
  funext y
  show V m c main_v57 (((cfg0.win 5).blk t).view.emb y) = V m c main_v57 y
  refine congrArg (V m c main_v57) (funext fun a => Fin.ext ?_)
  have h : win0_5.index t 0 = 0 ∧ win0_5.index t 1 = 0 := ⟨rfl, rfl⟩
  match a with
  | ⟨0, _⟩ => show win0_5.index t 0 * 128 + 1 * (y 0).val = (y 0).val; rw [h.1]; omega
  | ⟨1, _⟩ => show win0_5.index t 1 * 128 + 1 * (y 1).val = (y 1).val; rw [h.2]; omega

theorem iblk6 (t : Fin cfg0.N) : iblk m c 6 t = V m c main_v58 := by
  unfold iblk
  funext y
  show V m c main_v58 (((cfg0.win 6).blk t).view.emb y) = V m c main_v58 y
  refine congrArg (V m c main_v58) (funext fun a => Fin.ext ?_)
  have h : win0_6.index t 0 = 0 ∧ win0_6.index t 1 = 0 := ⟨rfl, rfl⟩
  match a with
  | ⟨0, _⟩ => show win0_6.index t 0 * 128 + 1 * (y 0).val = (y 0).val; rw [h.1]; omega
  | ⟨1, _⟩ => show win0_6.index t 1 * 128 + 1 * (y 1).val = (y 1).val; rw [h.2]; omega

theorem iblk7 (t : Fin cfg0.N) : iblk m c 7 t = V m c main_v60 := by
  unfold iblk
  funext y
  show V m c main_v60 (((cfg0.win 7).blk t).view.emb y) = V m c main_v60 y
  refine congrArg (V m c main_v60) (funext fun a => Fin.ext ?_)
  have h : win0_7.index t 0 = 0 ∧ win0_7.index t 1 = 0 := ⟨rfl, rfl⟩
  match a with
  | ⟨0, _⟩ => show win0_7.index t 0 * 128 + 1 * (y 0).val = (y 0).val; rw [h.1]; omega
  | ⟨1, _⟩ => show win0_7.index t 1 * 128 + 1 * (y 1).val = (y 1).val; rw [h.2]; omega

theorem iblk8 (t : Fin cfg0.N) : iblk m c 8 t = V m c main_v61 := by
  unfold iblk
  funext y
  show V m c main_v61 (((cfg0.win 8).blk t).view.emb y) = V m c main_v61 y
  refine congrArg (V m c main_v61) (funext fun a => Fin.ext ?_)
  have h : win0_8.index t 0 = 0 ∧ win0_8.index t 1 = 0 := ⟨rfl, rfl⟩
  match a with
  | ⟨0, _⟩ => show win0_8.index t 0 * 128 + 1 * (y 0).val = (y 0).val; rw [h.1]; omega
  | ⟨1, _⟩ => show win0_8.index t 1 * 128 + 1 * (y 1).val = (y 1).val; rw [h.2]; omega

theorem iblk9 (t : Fin cfg0.N) : iblk m c 9 t = V m c main_v63 := by
  unfold iblk
  funext y
  show V m c main_v63 (((cfg0.win 9).blk t).view.emb y) = V m c main_v63 y
  refine congrArg (V m c main_v63) (funext fun a => Fin.ext ?_)
  have h : win0_9.index t 0 = 0 ∧ win0_9.index t 1 = 0 := ⟨rfl, rfl⟩
  match a with
  | ⟨0, _⟩ => show win0_9.index t 0 * 128 + 1 * (y 0).val = (y 0).val; rw [h.1]; omega
  | ⟨1, _⟩ => show win0_9.index t 1 * 128 + 1 * (y 1).val = (y 1).val; rw [h.2]; omega

/-- The result's array as the region leaves it. -/
def final : Buf (Elt F) ((c : Thread nD τ).loc main_v64) :=
  whole (V m c main_v2) (V m c main_v3) (V m c main_v22) (V m c main_v34) (V m c main_v55) (V m c main_v57) (V m c main_v58)
    (V m c main_v60) (V m c main_v61) (V m c main_v63)

/-- What a grid point writes back is its block of that array. -/
theorem flushed_eq (t : Fin cfg0.N) : (dats m 0 c).flushed 10 t = (win0_10.blk t).view.read (Elt F) (final m c) := by
  rw [Cert.KernelIdeal.Value.flushed10, block_eq, iblk0, iblk1, iblk2, iblk3, iblk4, iblk5, iblk6, iblk7, iblk8, iblk9]
  funext y
  obtain ⟨h0, h1, h2⟩ := index10 t
  refine blockOut_four _ _ _ _ _ _ _ _ _ _ (point t) y (i := (win0_10.blk t).view.emb y) ?_ ?_ ?_
  · show win0_10.index t 0 * 4 + 1 * (y 0).val = 4 * t.val + (y 0).val; rw [h0]; omega
  · show win0_10.index t 1 * 128 + 1 * (y 1).val = (y 1).val; rw [h1]; omega
  · show win0_10.index t 2 * 256 + 1 * (y 2).val = (y 2).val; rw [h2]; omega

theorem mem_block (t : Fin cfg0.N) (i : S128x128x256.Idx) (h : (i 0).val / 4 = t.val) : i ∈ ((cfg0.win 10).blk t).view.set := by
  have hi1 : (i 1 : ℕ) < 128 := (i 1).isLt
  have hi2 : (i 2 : ℕ) < 256 := (i 2).isLt
  obtain ⟨h0, h1, h2⟩ := index10 t
  show i ∈ ((View.whole main_v64).slice (win0_10.rect t)).set
  rw [View.set_slice_whole, Rect.mem_set_unit]
  intro a
  match a with
  | ⟨0, _⟩ => show win0_10.index t 0 * 4 ≤ (i 0).val ∧ (i 0).val < win0_10.index t 0 * 4 + 4
              rw [h0]; omega
  | ⟨1, _⟩ => show win0_10.index t 1 * 128 ≤ (i 1).val ∧ (i 1).val < win0_10.index t 1 * 128 + 128
              rw [h1]; omega
  | ⟨2, _⟩ => show win0_10.index t 2 * 256 ≤ (i 2).val ∧ (i 2).val < win0_10.index t 2 * 256 + 256
              rw [h2]; omega

theorem cover (i : S128x128x256.Idx) :
    ∃ t : Fin cfg0.N, (cfg0.win 10).flush t = true ∧ i ∈ ((cfg0.win 10).blk t).view.set := by
  have hi0 : (i 0 : ℕ) < 128 := (i 0).isLt
  have hN : cfg0.N = 32 := N_0
  exact ⟨⟨(i 0).val / 4, by omega⟩, flush0_10 _, mem_block _ i rfl⟩

theorem arr_eq : (dats m 0 c).arrAt 10 cfg0.N = final m c :=
  (dats m 0 c).arrAt_eq_of_cover 10 (final m c) (fun t _ => flushed_eq m c t) cover
end Cert.RowOf
end
-- ==== Proof.Prefix.lean ====
module
public import proofs.«01_k».proof.Proof.Gen.KernelIdeal.Frame
public import Idealize.ShloMosaic.Lib.StableHlo.Run
@[expose] public section
noncomputable section
namespace Cert.Prefix
open Idealize.ShloMosaic Idealize.ShloMosaic.TcCoe Idealize.SL.Sem
open Cert.KernelIdeal Cert.KernelIdeal.Gen
variable {F : FTy → Type} [FloatOps F] [Named F]

/-- The number of a sample of even place, at row `i` and column `j` of its table. -/
def evens : IVec S128x128 32 :=
  addi (muli (broadcastInDim S128x128 ![] bcast_S_S128x128 (constantI S_ 32 256#32)) (iotaInDim S128x128 32 0))
    (muli (broadcastInDim S128x128 ![] bcast_S_S128x128 (constantI S_ 32 2#32)) (iotaInDim S128x128 32 1))

/-- The number of the sample that follows. -/
def odds : IVec S128x128 32 := addi evens (broadcastInDim S128x128 ![] bcast_S_S128x128 (constantI S_ 32 1#32))

/-- Row times column. -/
def products : IVec S128x128 32 := muli (iotaInDim S128x128 32 0) (iotaInDim S128x128 32 1)

/-- The number of a frequency, at its row and column. -/
def places : IVec S128x128 32 :=
  addi (iotaInDim S128x128 32 0) (muli (broadcastInDim S128x128 ![] bcast_S_S128x128 (constantI S_ 32 128#32)) (iotaInDim S128x128 32 1))

/-- A table of whole numbers, as angles: `d` of them to the full turn. -/
def turns (w : IVec S128x128 32) (d : BitVec 32) : FVec F S128x128 .f32 :=
  Host.divf (mulf (broadcastInDim S128x128 ![] bcast_S_S128x128 (mulf (constant S_ .f32 0x40000000#32)
      (Host.atan2 (constant S_ .f32 0x00000000#32) (constant S_ .f32 0xBF800000#32))))
    (sitofp .f32 w)) (broadcastInDim S128x128 ![] bcast_S_S128x128 (constant S_ .f32 d))

/-- The window at a table of samples. -/
def window (w : IVec S128x128 32) : FVec F S128x128 .f32 :=
  mulf (broadcastInDim S128x128 ![] bcast_S_S128x128 (constant S_ .f32 0x3F000000#32))
    (subf (broadcastInDim S128x128 ![] bcast_S_S128x128 (constant S_ .f32 0x3F800000#32)) (Host.cos (turns w 0x47000000#32)))

/-- The rows of samples, each laid out as 128 rows of 256. -/
def laid (X : FVec F S128x32768x1 .f32) : FVec F S128x128x256 .f32 :=
  shapeCast S128x128x256 (shapeCast S128x32768 X shapeCasts_S128x32768x1_S128x32768) shapeCasts_S128x32768_S128x128x256

/-- Every other sample, from the first. -/
def evenSamples (X : FVec F S128x32768x1 .f32) : FVec F S128x128x128 .f32 :=
  Host.slice S128x128x128 ![0, 0, 0] ![1, 1, 2] (laid X) slicesBy_S128x128x256_S128x128x128_0s1_0s1_0s2

/-- Every other sample, from the second. -/
def oddSamples (X : FVec F S128x32768x1 .f32) : FVec F S128x128x128 .f32 :=
  Host.slice S128x128x128 ![0, 0, 1] ![1, 1, 2] (laid X) slicesBy_S128x128x256_S128x128x128_0s1_0s1_1s2

variable (m : (ℓ : Loc nD τ sig) → Buf (Elt F) ℓ) (c : Dev nD)

theorem V_v2 : V m c main_v2 = evenSamples (F := F) (m ((c : Thread nD τ).loc main_arg0)) := by
  unfold V hostOps0
  after_results_simp
  rfl

theorem V_v3 : V m c main_v3 = oddSamples (F := F) (m ((c : Thread nD τ).loc main_arg0)) := by
  unfold V hostOps0
  after_results_simp
  rfl

theorem V_v22 : V m c main_v22 = window (F := F) evens := by
  unfold V hostOps0
  after_results_simp
  rfl

theorem V_v34 : V m c main_v34 = window (F := F) odds := by
  unfold V hostOps0
  after_results_simp
  rfl

theorem V_v55 : V m c main_v55 = Host.cos (turns (F := F) products 0x43000000#32) := by
  unfold V hostOps0
  after_results_simp
  rfl

theorem V_v57 : V m c main_v57 = Host.negf (Host.sin (turns (F := F) products 0x43000000#32)) := by
  unfold V hostOps0
  after_results_simp
  rfl

theorem V_v58 : V m c main_v58 = Host.cos (turns (F := F) products 0x46800000#32) := by
  unfold V hostOps0
  after_results_simp
  rfl

theorem V_v60 : V m c main_v60 = Host.negf (Host.sin (turns (F := F) products 0x46800000#32)) := by
  unfold V hostOps0
  after_results_simp
  rfl

theorem V_v61 : V m c main_v61 = Host.cos (turns (F := F) places 0x47000000#32) := by
  unfold V hostOps0
  after_results_simp
  rfl

theorem V_v63 : V m c main_v63 = Host.negf (Host.sin (turns (F := F) places 0x47000000#32)) := by
  unfold V hostOps0
  after_results_simp
  rfl
end Cert.Prefix
end
-- ==== Proof.Tile.lean ====
module
public import proofs.«01_k».proof.Proof.Dft
@[expose] public section
noncomputable section
namespace Cert.Spectrum
open Finset Complex

/-- A product of 128 x 128 arrays of reals. -/
def mm (f g : ℕ → ℕ → ℝ) (i j : ℕ) : ℝ := ∑ a ∈ range 128, f i a * g a j

/-- A product of 128 x 128 arrays of complex numbers. -/
def mmC (f g : ℕ → ℕ → ℂ) (i j : ℕ) : ℂ := ∑ a ∈ range 128, f i a * g a j

/-- The complex array with the given real and imaginary parts. -/
def cx (f g : ℕ → ℕ → ℝ) (i j : ℕ) : ℂ := f i j + g i j * I

theorem mmC_cx (fr fi gr gi : ℕ → ℕ → ℝ) (i j : ℕ) :
    mmC (cx fr fi) (cx gr gi) i j =
      ((mm fr gr i j - mm fi gi i j : ℝ) : ℂ) + ((mm fr gi i j + mm fi gr i j : ℝ) : ℂ) * I := by
  simp only [mmC, mm, cx]
  push_cast
  rw [← Finset.sum_sub_distrib, ← Finset.sum_add_distrib, Finset.sum_mul, ← Finset.sum_add_distrib]
  refine sum_congr rfl fun a _ => ?_
  linear_combination ((fi i a : ℂ) * gi a j) * I_sq

variable (ye yo fr fi wr wi hr hi : ℕ → ℕ → ℝ)

/-- The real and imaginary parts of the half transforms, as the rows are computed, from those of the samples `yr + i yi`
    given the products with the table. -/
def half (br bi wr wi fr fi : ℕ → ℕ → ℝ) : (ℕ → ℕ → ℝ) × (ℕ → ℕ → ℝ) :=
  let cr := fun i b => br i b * wr i b - bi i b * wi i b
  let ci := fun i b => br i b * wi i b + bi i b * wr i b
  (fun i j => mm cr fr i j - mm ci fi i j, fun i j => mm cr fi i j + mm ci fr i j)

theorem half_cx (br bi : ℕ → ℕ → ℝ) (i j : ℕ) :
    cx (half br bi wr wi fr fi).1 (half br bi wr wi fr fi).2 i j =
      mmC (fun i b => cx br bi i b * cx wr wi i b) (cx fr fi) i j := by
  have : (fun i b => cx br bi i b * cx wr wi i b) =
      cx (fun i b => br i b * wr i b - bi i b * wi i b) (fun i b => br i b * wi i b + bi i b * wr i b) := by
    funext i b
    simp only [cx]; push_cast
    linear_combination ((bi i b : ℂ) * wi i b) * I_sq
  rw [this, mmC_cx]; rfl

/-- One row's squared magnitudes from its even and odd windowed samples and the tables, operation for operation. -/
def tile (i j : ℕ) : ℝ :=
  let a := mm fr ye
  let b := mm fi yo
  let c := mm fr yo
  let d := mm fi ye
  let y := half (fun i b' => a i b' - b i b') (fun i b' => c i b' + d i b') wr wi fr fi
  let g := half (fun i b' => a i b' + b i b') (fun i b' => d i b' - c i b') wr wi fr fi
  let er := 1 / 2 * (y.1 i j + g.1 i j)
  let ei := 1 / 2 * (y.2 i j + g.2 i j)
  let o_r := 1 / 2 * (y.2 i j - g.2 i j)
  let o_i := -(1 / 2) * (y.1 i j - g.1 i j)
  let xr := er + hr i j * o_r - hi i j * o_i
  let xi := ei + hr i j * o_i + hi i j * o_r
  xr * xr + xi * xi

/-- The tables' entries are powers of the root. -/
structure Tables : Prop where
  f : ∀ i j, cx fr fi i j = root (256 * (i * j))
  w : ∀ i j, cx wr wi i j = root (2 * (i * j))
  h : ∀ i j, cx hr hi i j = root (i + 128 * j)

variable {fr fi wr wi hr hi}

theorem half_twoStep (ht : Tables fr fi wr wi hr hi) (br bi : ℕ → ℕ → ℝ) (g : ℕ → ℕ → ℂ)
    (hb : ∀ i b, cx br bi i b = ∑ a ∈ range 128, root (256 * (i * a)) * g a b) (i j : ℕ) :
    cx (half br bi wr wi fr fi).1 (half br bi wr wi fr fi).2 i j = twoStep g i j := by
  rw [half_cx, mmC, twoStep]
  refine sum_congr rfl fun b _ => ?_
  rw [hb, ht.w, ht.f]

theorem twoStep_add (g h : ℕ → ℕ → ℂ) (z : ℂ) (i j : ℕ) :
    twoStep (fun a b => g a b + z * h a b) i j = twoStep g i j + z * twoStep h i j := by
  rw [twoStep_eq, twoStep_eq, twoStep_eq, Finset.mul_sum, ← Finset.sum_add_distrib]
  refine sum_congr rfl fun a _ => ?_
  rw [Finset.mul_sum, ← Finset.sum_add_distrib]
  refine sum_congr rfl fun b _ => ?_
  ring

/-- A row's squared magnitude in row `i` and column `j` is that of the spectrum at the frequency `i + 128 j`. -/
theorem tile_eq (ht : Tables fr fi wr wi hr hi) (y : ℕ → ℝ) (i j : ℕ) :
    tile (fun a b => y (256 * a + 2 * b)) (fun a b => y (256 * a + 2 * b + 1)) fr fi wr wi hr hi i j =
      power y (i + 128 * j) := by
  set ye : ℕ → ℕ → ℝ := fun a b => y (256 * a + 2 * b) with hye
  set yo : ℕ → ℕ → ℝ := fun a b => y (256 * a + 2 * b + 1) with hyo
  have hf := ht.f
  have hY := half_twoStep ht (fun i b' => mm fr ye i b' - mm fi yo i b') (fun i b' => mm fr yo i b' + mm fi ye i b')
    (fun a b => (ye a b : ℂ) + I * (yo a b : ℂ)) (fun i b => by
      have := mmC_cx fr fi ye yo i b
      simp only [mmC, hf] at this
      simp only [cx] at this ⊢
      rw [← this]
      exact sum_congr rfl fun a _ => by ring) i j
  have hG := half_twoStep ht (fun i b' => mm fr ye i b' + mm fi yo i b') (fun i b' => mm fi ye i b' - mm fr yo i b')
    (fun a b => (ye a b : ℂ) + (-I) * (yo a b : ℂ)) (fun i b => by
      have := mmC_cx fr fi ye (fun a b => -yo a b) i b
      have hneg : ∀ f, mm f (fun a b => -yo a b) i b = -mm f yo i b := fun f => by
        simp only [mm, mul_neg, Finset.sum_neg_distrib]
      rw [hneg, hneg] at this
      simp only [mmC, hf] at this
      simp only [cx] at this ⊢
      rw [show mm fr ye i b + mm fi yo i b = mm fr ye i b - -mm fi yo i b by ring,
        show mm fi ye i b - mm fr yo i b = -mm fr yo i b + mm fi ye i b by ring, ← this]
      exact sum_congr rfl fun a _ => by push_cast; ring) i j
  rw [twoStep_add] at hY hG
  set Y := half (fun i b' => mm fr ye i b' - mm fi yo i b') (fun i b' => mm fr yo i b' + mm fi ye i b') wr wi fr fi
  set G := half (fun i b' => mm fr ye i b' + mm fi yo i b') (fun i b' => mm fi ye i b' - mm fr yo i b') wr wi fr fi
  have hh := ht.h i j
  simp only [cx] at hY hG hh
  have hX : dft y (i + 128 * j) =
      ((1 / 2 * (Y.1 i j + G.1 i j) + hr i j * (1 / 2 * (Y.2 i j - G.2 i j)) - hi i j * (-(1 / 2) * (Y.1 i j - G.1 i j)) : ℝ) : ℂ) +
      ((1 / 2 * (Y.2 i j + G.2 i j) + hr i j * (-(1 / 2) * (Y.1 i j - G.1 i j)) + hi i j * (1 / 2 * (Y.2 i j - G.2 i j)) : ℝ) : ℂ) * I := by
    rw [dft_eq, ← hh]
    change twoStep (fun a b => (ye a b : ℂ)) i j + _ * twoStep (fun a b => (yo a b : ℂ)) i j = _
    have hE : twoStep (fun a b => (ye a b : ℂ)) i j = 1 / 2 * ((Y.1 i j + Y.2 i j * I) + (G.1 i j + G.2 i j * I)) := by
      rw [hY, hG]; ring
    have hO : twoStep (fun a b => (yo a b : ℂ)) i j = -(1 / 2) * I * ((Y.1 i j + Y.2 i j * I) - (G.1 i j + G.2 i j * I)) := by
      rw [hY, hG]
      linear_combination (twoStep (fun a b => (yo a b : ℂ)) i j) * I_sq
    rw [hE, hO]
    push_cast
    linear_combination ((-(1 / 2)) * ((hr i j : ℂ) * (Y.2 i j - G.2 i j) + (hi i j : ℂ) * ((Y.1 i j - G.1 i j) + (Y.2 i j - G.2 i j) * I))) * I_sq
  rw [power, hX, Complex.normSq_add_mul_I]
  simp only [tile]
  change _ = _
  ring

end Cert.Spectrum
end
-- ==== Proof.Reals.lean ====
module
public import proofs.«01_k».proof.Proof.Row
public import proofs.«01_k».proof.Proof.Tile
public import proofs.«01_k».proof.Proof.Scalars
public import Idealize.ShloMosaic.Lib.MatmulPlain
public import Idealize.ShloMosaic.Lib.ValueLayout
public import Idealize.ShloMosaic.PureOps.Ideal.Laws
public import Idealize.ShloMosaic.PureOps.Reduce
@[expose] public section
noncomputable section
namespace Cert.RowOf
open Idealize.ShloMosaic Idealize.SL.Sem Idealize.ShloMosaic.ValueIdx
open Cert.KernelIdeal Cert.KernelIdeal.Gen Cert.Spectrum Cert.Scalars
open scoped BigOperators

/-- The array's elements are these reals. -/
def Is (a : Arr Ideal) (f : ℕ → ℕ → ℝ) : Prop := ∀ i j : Fin 128, a (ix2 i j) = ((f i.val j.val : ℝ) : EReal)

variable {a b : Arr Ideal} {f g : ℕ → ℕ → ℝ}

theorem Is.mul (ha : Is a f) (hb : Is b g) : Is (mulf a b) (fun i j => f i j * g i j) := fun i j => by
  show a (ix2 i j) * b (ix2 i j) = _
  rw [ha, hb, EReal.coe_mul]

theorem Is.add (ha : Is a f) (hb : Is b g) : Is (addf a b) (fun i j => f i j + g i j) := fun i j => by
  show a (ix2 i j) + b (ix2 i j) = _
  rw [ha, hb, EReal.coe_add]

theorem Is.sub (ha : Is a f) (hb : Is b g) : Is (subf a b) (fun i j => f i j - g i j) := fun i j => by
  show a (ix2 i j) - b (ix2 i j) = _
  rw [ha, hb, EReal.coe_sub]

theorem Is.plus_half (ha : Is a f) : Is (scale 0x3F000000#32 a) (fun i j => 1 / 2 * f i j) := fun i j => by
  show Ideal.ofBits .f32 0x3F000000#32 * a (ix2 i j) = _
  rw [ha, lit_half, EReal.coe_mul]

theorem Is.minus_half (ha : Is a f) : Is (scale 0xBF000000#32 a) (fun i j => -(1 / 2) * f i j) := fun i j => by
  show Ideal.ofBits .f32 0xBF000000#32 * a (ix2 i j) = _
  rw [ha, lit_neg_half, EReal.coe_mul]

theorem Is.dot (ha : Is a f) (hb : Is b g) : Is (dot a b) (mm f g) := fun i j => by
  have e : RowOf.dot a b (ix2 i j) = Ideal.ofBits .f32 0x00000000#32 + ∑ k : Fin 128, a (ix2 i k) * b (ix2 k j) :=
    Ideal.matmul_plain_apply (some .fp32) a b (constant S128x128 .f32 0x00000000#32) i j
  rw [e, lit_zero, EReal.coe_zero, zero_add, mm, ← Fin.sum_univ_eq_sum_range (fun k => f i.val k * g k j.val), ← sum_coe]
  exact Finset.sum_congr rfl fun k _ => by rw [ha, hb, EReal.coe_mul]

variable {ye yo fr fi wr wi hr hi : Arr Ideal} {Ye Yo Fr Fi Wr Wi Hr Hi : ℕ → ℕ → ℝ}

theorem Is.halfRe (ha : Is a f) (hb : Is b g) (hwr : Is wr Wr) (hwi : Is wi Wi) (hfr : Is fr Fr) (hfi : Is fi Fi) :
    Is (halfRe a b wr wi fr fi) (half f g Wr Wi Fr Fi).1 :=
  ((((ha.mul hwr).sub (hb.mul hwi)).dot hfr).sub (((ha.mul hwi).add (hb.mul hwr)).dot hfi))

theorem Is.halfIm (ha : Is a f) (hb : Is b g) (hwr : Is wr Wr) (hwi : Is wi Wi) (hfr : Is fr Fr) (hfi : Is fi Fi) :
    Is (halfIm a b wr wi fr fi) (half f g Wr Wi Fr Fi).2 :=
  ((((ha.mul hwr).sub (hb.mul hwi)).dot hfi).add (((ha.mul hwi).add (hb.mul hwr)).dot hfr))

/-- The squared magnitudes of real samples and tables. -/
theorem Is.squares (hye : Is ye Ye) (hyo : Is yo Yo) (hfr : Is fr Fr) (hfi : Is fi Fi) (hwr : Is wr Wr) (hwi : Is wi Wi)
    (hhr : Is hr Hr) (hhi : Is hi Hi) : Is (squares ye yo fr fi wr wi hr hi) (tile Ye Yo Fr Fi Wr Wi Hr Hi) := by
  have h1 := (hfr.dot hye).sub (hfi.dot hyo)
  have h2 := (hfr.dot hyo).add (hfi.dot hye)
  have h3 := (hfr.dot hye).add (hfi.dot hyo)
  have h4 := (hfi.dot hye).sub (hfr.dot hyo)
  have yr := h1.halfRe h2 hwr hwi hfr hfi
  have yi := h1.halfIm h2 hwr hwi hfr hfi
  have gr := h3.halfRe h4 hwr hwi hfr hfi
  have gi := h3.halfIm h4 hwr hwi hfr hfi
  have re := ((yr.add gr).plus_half.add (hhr.mul (yi.sub gi).plus_half)).sub (hhi.mul (yr.sub gr).minus_half)
  have im := ((yi.add gi).plus_half.add (hhr.mul (yr.sub gr).minus_half)).add (hhi.mul (yi.sub gi).plus_half)
  exact (re.mul re).add (im.mul im)

/-- The one element of an array of one element. -/
theorem extract_one {α : Type} (x : S1.Idx → α) :
    extractAt ![0, 0, 0] (shapeCast S1x1x1 x shapeCasts_S1_S1x1x1) inpos_S1x1x1_p0_0_0 = x (ix1 (0 : Fin 1)) :=
  congrArg x (funext fun b => Fin.ext (by
    have h : ∀ i j : S1.Idx, (i b).val = (j b).val := fun i j => by
      have h1 := (i b).isLt
      have h2 := (j b).isLt
      have h3 : S1.size b = 1 := by fin_cases b; rfl
      omega
    exact h _ _))

/-- A sum over the 1 x 128 x 128 places. -/
theorem sum_places (x : Arr Ideal) (h : Is x f) :
    ∑ i : S1x128x128.Idx, shapeCast S1x128x128 x shapeCasts_S128x128_S1x128x128 i
      = ((∑ i ∈ Finset.range 128, ∑ j ∈ Finset.range 128, f i j : ℝ) : EReal) := by
  let e : Fin 128 × Fin 128 ≃ S1x128x128.Idx :=
    { toFun := fun p => ix3 (0 : Fin 1) p.1 p.2
      invFun := fun i => (i 1, i 2)
      left_inv := fun _ => rfl
      right_inv := fun i => funext fun b => match b with
        | ⟨0, _⟩ => Fin.ext (by have h0 : (i 0).val < 1 := (i 0).isLt; show 0 = (i 0).val; omega)
        | ⟨1, _⟩ => rfl
        | ⟨2, _⟩ => rfl }
  rw [← e.sum_comp, Fintype.sum_prod_type, ← Fin.sum_univ_eq_sum_range (fun i => ∑ j ∈ Finset.range 128, f i j), ← sum_coe]
  refine Finset.sum_congr rfl fun i _ => ?_
  rw [← Fin.sum_univ_eq_sum_range (fun j => f i.val j), ← sum_coe]
  exact Finset.sum_congr rfl fun j _ => (shapeCast_ab_1ab_apply x _ _ i j).trans (h i j)

theorem nyquist_eq (hye : Is ye Ye) (hyo : Is yo Yo) :
    nyquist ye yo = ((∑ i ∈ Finset.range 128, ∑ j ∈ Finset.range 128, (Ye i j - Yo i j) : ℝ) : EReal) :=
  (extract_one _).trans ((Ideal.multiReduction_add_total (shapeCast S1x128x128 (subf ye yo) shapeCasts_S128x128_S1x128x128) 0x00000000#32
    reduces_S1x128x128_S1 (fun b => by fin_cases b; rfl) (.inl rfl) rfl (ix1 (0 : Fin 1))).trans (sum_places _ (hye.sub hyo)))

end Cert.RowOf
end
-- ==== Proof.Pick.lean ====
module
public import proofs.«01_k».proof.Proof.Reals
public import Idealize.ShloMosaic.Lib.SortNet.Extract
@[expose] public section
noncomputable section
namespace Cert.RowOf
open Idealize.ShloMosaic Idealize.SL.Sem Idealize.ShloMosaic.ValueIdx
open Cert.KernelIdeal Cert.KernelIdeal.Gen Cert.Spectrum Cert.Scalars

theorem drop_all (j : S1.Idx) :
    (Finset.univ.filter fun i : S1x128x128.Idx => reduces_S1x128x128_S1.drop i = j) = Finset.univ :=
  Finset.filter_true_of_mem fun i _ => funext fun b => Fin.ext (by
    have h1 := (reduces_S1x128x128_S1.drop i b).isLt
    have h2 := (j b).isLt
    have h3 : S1.size b = 1 := by fin_cases b; rfl
    omega)

/-- Each place of the 1 x 128 x 128 array is one of the 128 x 128 array. -/
theorem at_place (i : S1x128x128.Idx) :
    ∃ p q : Fin 128, ∀ {α : Type} (x : S128x128.Idx → α), shapeCast S1x128x128 x shapeCasts_S128x128_S1x128x128 i = x (ix2 p q) := by
  obtain ⟨u, p, q, rfl⟩ : ∃ (u : Fin 1) (p q : Fin 128), i = ix3 u p q := ⟨i 0, i 1, i 2, eq_ix3 i⟩
  exact ⟨p, q, fun x => shapeCast_ab_1ab_apply x _ _ _ _⟩

/-- What `greatest` reads at its one place. -/
def reduced (x : FVec Ideal S1x128x128 .f32) : FVec Ideal S1 .f32 :=
  multiReduction .maximumf [1, 2] S1 x 0xFF800000#32 reduces_S1x128x128_S1 (.inl rfl) rfl

theorem reduced_eq (x : FVec Ideal S1x128x128 .f32) (j : S1.Idx) : reduced x j =
    (Finset.univ.filter fun i : S1x128x128.Idx => reduces_S1x128x128_S1.drop i = j).fold
      (FloatOps.maximumf (F := Ideal) (φ := .f32)) (FloatOps.ofBits (F := Ideal) .f32 0xFF800000#32) x :=
  multiReduction_maximumf_eq_fold x 0xFF800000#32 reduces_S1x128x128_S1 (.inl rfl) rfl j

theorem greatest_eq (m : Arr Ideal) : greatest m =
    reduced (shapeCast S1x128x128 m shapeCasts_S128x128_S1x128x128) (ix1 (0 : Fin 1)) := by
  unfold greatest
  exact extract_one (reduced (shapeCast S1x128x128 m shapeCasts_S128x128_S1x128x128))

theorem greatest_fold (m : Arr Ideal) : greatest m =
    Finset.univ.fold max (⊥ : EReal) (shapeCast S1x128x128 m shapeCasts_S128x128_S1x128x128) := by
  have h : FloatOps.ofBits (F := Ideal) .f32 0xFF800000#32 = (⊥ : EReal) := lit_bot
  rw [greatest_eq, reduced_eq, drop_all, h]
  rfl

/-- The greatest element is one of the elements and at least each. -/
theorem greatest_spec {m : Arr Ideal} {f : ℕ → ℕ → ℝ} (h : Is m f) :
    ∃ a b : Fin 128, greatest m = ((f a.val b.val : ℝ) : EReal) ∧ ∀ i j : Fin 128, f i.val j.val ≤ f a.val b.val := by
  have hle : ∀ i j : Fin 128, ((f i.val j.val : ℝ) : EReal) ≤ greatest m := fun i j => by
    rw [greatest_fold]
    exact (Finset.le_fold_max _).mpr (.inr ⟨ix3 (0 : Fin 1) i j, Finset.mem_univ _,
      ((shapeCast_ab_1ab_apply m shapeCasts_S128x128_S1x128x128 _ i j).trans (h i j)).ge⟩)
  have hat : ∃ a b : Fin 128, greatest m ≤ ((f a.val b.val : ℝ) : EReal) := by
    rcases (Finset.le_fold_max _).mp (greatest_fold m).le with h0 | ⟨i, -, hi⟩
    · exact absurd (le_bot_iff.mp ((hle 0 0).trans h0)) (EReal.coe_ne_bot _)
    · obtain ⟨p, q, hpq⟩ := at_place i
      exact ⟨p, q, hi.trans ((hpq m).trans (h p q)).le⟩
  obtain ⟨a, b, hab⟩ := hat
  have hg : greatest m = ((f a.val b.val : ℝ) : EReal) := le_antisymm hab (hle a b)
  refine ⟨a, b, hg, fun p q => ?_⟩
  have := hle p q
  rw [hg] at this
  exact EReal.coe_le_coe_iff.mp this

/-- What the search for the first place compares at a place. -/
def mark (m : Arr Ideal) : IVec S128x128 32 :=
  select (cmpf .oeq m (broadcast S128x128 (greatest m))) place (broadcast S128x128 1073741824#32)

theorem place_apply (i j : Fin 128) : place (ix2 i j) = BitVec.ofNat 32 (128 * i.val + j.val) := by
  show BitVec.ofNat 32 (0 * 128 + i.val) * 128#32 + BitVec.ofNat 32 (0 * 128 + j.val) = _
  apply BitVec.eq_of_toNat_eq
  simp only [BitVec.toNat_add, BitVec.toNat_mul, BitVec.toNat_ofNat]
  have := i.isLt
  have := j.isLt
  omega

theorem place_toInt (i j : Fin 128) : (BitVec.ofNat 32 (128 * i.val + j.val)).toInt = ((128 * i.val + j.val : ℕ) : ℤ) := by
  have := i.isLt
  have := j.isLt
  rw [BitVec.toInt_eq_toNat_of_lt (by rw [BitVec.toNat_ofNat]; omega), BitVec.toNat_ofNat, Nat.mod_eq_of_lt (by omega)]

theorem select_apply (m : Arr Ideal) (g : EReal) (x : IVec S128x128 32) (w : BitVec 32) (i : S128x128.Idx) :
    select (cmpf .oeq m (broadcast S128x128 g)) x (broadcast S128x128 w) i = if m i = g then x i else w := by
  show (if Ideal.cmp .oeq (m i) g = 1#1 then x i else w) = _
  unfold Ideal.cmp
  by_cases h : m i = g <;> simp [h]

theorem mark_apply (m : Arr Ideal) (i j : Fin 128) :
    mark m (ix2 i j) = if m (ix2 i j) = greatest m then BitVec.ofNat 32 (128 * i.val + j.val) else 1073741824#32 := by
  unfold mark
  rw [select_apply, place_apply]

theorem first_eq (m : Arr Ideal) : first m =
    (Finset.univ.filter fun i : S1x128x128.Idx => reduces_S1x128x128_S1.drop i = ix1 (0 : Fin 1)).fold
      IKind.minsi.op 2147483647#32 (shapeCast S1x128x128 (mark m) shapeCasts_S128x128_S1x128x128) :=
  (extract_one _).trans (multiReductionI_eq_fold .minsi _ 2147483647#32 reduces_S1x128x128_S1 rfl (ix1 (0 : Fin 1)))

theorem first_fold (m : Arr Ideal) : (first m).toInt =
    Finset.univ.fold min (2147483647 : ℤ) (fun i => (shapeCast S1x128x128 (mark m) shapeCasts_S128x128_S1x128x128 i).toInt) := by
  rw [first_eq, drop_all]
  exact (Finset.fold_hom (op := IKind.minsi.op) (op' := min) (m := BitVec.toInt) fun p q => SortNet.toInt_minsi p q).symm

/-- The place found holds the greatest element. -/
theorem first_spec {m : Arr Ideal} {f : ℕ → ℕ → ℝ} (h : Is m f) :
    ∃ a b : Fin 128, first m = BitVec.ofNat 32 (128 * a.val + b.val) ∧ greatest m = ((f a.val b.val : ℝ) : EReal) := by
  have hle : ∀ i j : Fin 128, (first m).toInt ≤ (mark m (ix2 i j)).toInt := fun i j => by
    rw [first_fold]
    exact (Finset.fold_min_le _).mpr (.inr ⟨ix3 (0 : Fin 1) i j, Finset.mem_univ _,
      (congrArg BitVec.toInt (shapeCast_ab_1ab_apply (mark m) shapeCasts_S128x128_S1x128x128 _ i j)).le⟩)
  obtain ⟨a₀, b₀, hg, -⟩ := greatest_spec h
  have hlt : (first m).toInt < 16384 := by
    have h1 := hle a₀ b₀
    rw [mark_apply, if_pos ((h a₀ b₀).trans hg.symm), place_toInt] at h1
    have := a₀.isLt
    have := b₀.isLt
    omega
  have hat : ∃ a b : Fin 128, (mark m (ix2 a b)).toInt ≤ (first m).toInt := by
    rcases (Finset.fold_min_le _).mp (first_fold m).ge with h0 | ⟨i, -, hi⟩
    · omega
    · obtain ⟨p, q, hpq⟩ := at_place i
      exact ⟨p, q, (congrArg BitVec.toInt (hpq (mark m))).symm.le.trans hi⟩
  obtain ⟨a, b, hab⟩ := hat
  have hw : first m = mark m (ix2 a b) := BitVec.eq_of_toInt_eq (le_antisymm (hle a b) hab)
  rw [mark_apply] at hw
  by_cases hm : m (ix2 a b) = greatest m
  · rw [if_pos hm] at hw
    exact ⟨a, b, hw, by rw [← hm]; exact h _ _⟩
  · rw [if_neg hm] at hw
    rw [hw] at hlt
    exact absurd hlt (by decide)

end Cert.RowOf
end
-- ==== Proof.Rounds.lean ====
module
public import Idealize.ShloMosaic.PureOps.Ideal
public import proofs.«01_k».proof.Proof.Exchange
@[expose] public section
noncomputable section
namespace Cert.Spectrum

/-- What one round of the selection does to the squared magnitudes `m` of the frequencies below `M`, to the squared
    magnitude `n` of the frequency `M` and to the number `s` of places left, and the frequency `f` and the number `t` of
    places it takes at the squared magnitude `val`: the greatest of all of them is picked, at `k₀` or at `M`. -/
structure Round (M : ℕ) (m : ℕ → ℝ) (n : ℝ) (s : ℕ) (m' : ℕ → ℝ) (n' : ℝ) (s' : ℕ) (f t : ℕ) (val : ℝ) : Prop where
  step : ∃ k₀ < M, (∀ k < M, m k ≤ m k₀) ∧
    (m k₀ < n ∧ f = M ∧ t = min 1 s ∧ val = n ∧ n' = -1 ∧ (∀ k < M, m' k = m k) ∨
      ¬ m k₀ < n ∧ f = k₀ ∧ t = min (if k₀ = 0 then 1 else 2) s ∧ val = m k₀ ∧ n' = n ∧
        (∀ k < M, m' k = if k = k₀ then -1 else m k))
  left : s' = s - t

/-- What holds after `r` rounds: the places taken so far are the frequencies of `S`, which hold greatest squared
    magnitudes, and the sum of the terms so far is the sum over `S`. -/
structure Taken (M : ℕ) (v c : ℕ → ℝ) (r : ℕ) (m : ℕ → ℝ) (n : ℝ) (s : ℕ) (acc : ℝ) (S : Finset ℕ) : Prop where
  top : IsTop (2 * M) v S
  card : S.card + s = 8
  sum : acc = ∑ i ∈ S, Real.sqrt (v i) * c i
  rest : s = 0 ∨ (n = (if M ∈ S then -1 else v M) ∧ (∀ k < M, m k = if k ∈ S then -1 else v k) ∧
    (∀ k, 0 < k → k < M → (k ∈ S ↔ 2 * M - k ∈ S)) ∧
    S.card + (if 0 ∈ S then 1 else 0) + (if M ∈ S then 1 else 0) = 2 * r)

variable {M : ℕ} {v c : ℕ → ℝ}

theorem Taken.start (m : ℕ → ℝ) (hm : ∀ k < M, m k = v k) : Taken M v c 0 m (v M) 8 0 ∅ where
  top := ⟨by simp, by simp⟩
  card := by simp
  sum := by simp
  rest := .inr ⟨by simp, by simpa using hm, by simp, by simp⟩

/-- While places are left, the greatest squared magnitude is not negative. -/
theorem Taken.nonneg (hM : 8 < M) (hv : ∀ k, 0 ≤ v k) {r : ℕ} {m : ℕ → ℝ} {n : ℝ} {s : ℕ} {acc : ℝ} {S : Finset ℕ}
    (h : Taken M v c r m n s acc S) (hs : s ≠ 0) {k₀ : ℕ} (hmax : ∀ k < M, m k ≤ m k₀) : 0 ≤ m k₀ := by
  obtain ⟨-, hm, -⟩ := h.rest.resolve_left hs
  have : ∃ k ∈ Finset.range M, k ∉ S := by
    by_contra hno
    push Not at hno
    have := Finset.card_le_card (show Finset.range M ⊆ S from hno)
    have := h.card
    simp at *
    omega
  obtain ⟨k, hk, hkS⟩ := this
  rw [Finset.mem_range] at hk
  have := hmax k hk
  rw [hm k hk, if_neg hkS] at this
  exact (hv k).trans this

/-- A round carries what holds on. -/
theorem Taken.round (hM : 8 < M) (hv : ∀ k, 0 ≤ v k) (hmv : ∀ k, 0 < k → k < M → v (2 * M - k) = v k)
    (hmc : ∀ k, 0 < k → k < M → c (2 * M - k) = c k)
    {r : ℕ} {m m' : ℕ → ℝ} {n n' : ℝ} {s s' : ℕ} {acc : ℝ} {S : Finset ℕ} {f t : ℕ} {val : ℝ}
    (h : Taken M v c r m n s acc S) (hr : Round M m n s m' n' s' f t val) :
    ∃ S', Taken M v c (r + 1) m' n' s' (acc + t * Real.sqrt val * c f) S' := by
  by_cases hs : s = 0
  · subst hs
    have ht : t = 0 := by
      obtain ⟨k₀, -, -, h1 | h1⟩ := hr.step
      · simpa using h1.2.2.1
      · simpa using h1.2.2.1
    refine ⟨S, h.top, ?_, ?_, .inl ?_⟩
    · have := h.card; have := hr.left; omega
    · rw [ht, h.sum]; simp
    · have := hr.left; omega
  obtain ⟨hn, hm, hsym, hcount⟩ := h.rest.resolve_left hs
  obtain ⟨k₀, hk₀, hmax, hcase⟩ := hr.step
  have h0 := h.nonneg hM hv hs hmax
  have hcard := h.card
  have hleft := hr.left
  have htop := h.top
  -- the values at places not yet taken
  have hlow : ∀ k < M, k ∉ S → v k ≤ m k₀ := fun k hk hkS => by
    have := hmax k hk; rwa [hm k hk, if_neg hkS] at this
  have hhigh : ∀ k, M < k → k < 2 * M → k ∉ S → v k ≤ m k₀ := fun k hk hk2 hkS => by
    have e : 2 * M - (2 * M - k) = k := by omega
    have := hlow (2 * M - k) (by omega) (fun hin => hkS (by
      have := (hsym (2 * M - k) (by omega) (by omega)).mp hin
      rwa [e] at this))
    have h2 := hmv (2 * M - k) (by omega) (by omega)
    rw [e] at h2
    rwa [h2]
  rcases hcase with ⟨hlt, hf, ht, hval, hn', hm'⟩ | ⟨hlt, hf, ht, hval, hn', hm'⟩
  · have hMS : M ∉ S := fun hin => by rw [hn, if_pos hin] at hlt; linarith
    rw [if_neg hMS] at hn
    have ht1 : t = 1 := by omega
    refine ⟨insert M S, ⟨?_, ?_⟩, ?_, ?_, .inr ⟨?_, ?_, ?_, ?_⟩⟩
    · intro i hi
      rcases Finset.mem_insert.mp hi with rfl | hi
      · exact Finset.mem_range.mpr (by omega)
      · exact htop.1 hi
    · intro i hi j hj hjS
      rw [Finset.mem_insert, not_or] at hjS
      rcases Finset.mem_insert.mp hi with rfl | hi
      · rw [← hn]
        rcases Nat.lt_or_gt_of_ne hjS.1 with hj1 | hj1
        · exact (hlow j hj1 hjS.2).trans hlt.le
        · exact (hhigh j hj1 hj hjS.2).trans hlt.le
      · exact htop.2 i hi j hj hjS.2
    · rw [Finset.card_insert_of_notMem hMS]; omega
    · rw [Finset.sum_insert hMS, h.sum, hf, hval, hn, ht1]; push_cast; ring
    · simp [hn']
    · intro k hk
      rw [hm' k hk, hm k hk]
      have : k ≠ M := by omega
      simp [this]
    · intro k hk hkM
      rw [Finset.mem_insert, Finset.mem_insert, hsym k hk hkM]
      have h1 : k ≠ M := by omega
      have h2 : 2 * M - k ≠ M := by omega
      simp [h1, h2]
    · rw [Finset.card_insert_of_notMem hMS]
      have h1 : (0 : ℕ) ≠ M := by omega
      simp only [Finset.mem_insert, h1, false_or, true_or, if_true]
      rw [if_neg hMS] at hcount
      omega
  · have hkS : k₀ ∉ S := fun hin => by
      have := hm k₀ hk₀; rw [if_pos hin] at this; linarith
    have hv0 : m k₀ = v k₀ := by rw [hm k₀ hk₀, if_neg hkS]
    rw [hv0] at hlow hhigh
    have hMv : M ∉ S → v M ≤ v k₀ := fun hMS => by
      rw [hn, if_neg hMS, hv0] at hlt; exact not_lt.mp hlt
    have hall : ∀ j < 2 * M, j ∉ S → v j ≤ v k₀ := fun j hj hjS => by
      rcases Nat.lt_trichotomy j M with hj1 | rfl | hj1
      · exact hlow j hj1 hjS
      · exact hMv hjS
      · exact hhigh j hj1 hj hjS
    have htop1 : IsTop (2 * M) v (insert k₀ S) := by
      refine ⟨?_, ?_⟩
      · intro i hi
        rcases Finset.mem_insert.mp hi with rfl | hi
        · exact Finset.mem_range.mpr (by omega)
        · exact htop.1 hi
      · intro i hi j hj hjS
        rw [Finset.mem_insert, not_or] at hjS
        rcases Finset.mem_insert.mp hi with rfl | hi
        · exact hall j hj hjS.2
        · exact htop.2 i hi j hj hjS.2
    by_cases hk0 : k₀ = 0
    · rw [if_pos hk0] at ht
      have ht1 : t = 1 := by omega
      refine ⟨insert k₀ S, htop1, ?_, ?_, .inr ⟨?_, ?_, ?_, ?_⟩⟩
      · rw [Finset.card_insert_of_notMem hkS]; omega
      · rw [Finset.sum_insert hkS, h.sum, hf, hval, hv0, ht1]; push_cast; ring
      · have h1 : M ≠ k₀ := by omega
        rw [hn', hn]; simp [h1]
      · intro k hk
        rw [hm' k hk, hm k hk]
        simp only [Finset.mem_insert]
        by_cases hkk : k = k₀ <;> simp [hkk]
      · intro k hk hkM
        rw [Finset.mem_insert, Finset.mem_insert, hsym k hk hkM]
        have h1 : k ≠ k₀ := by omega
        have h2 : 2 * M - k ≠ k₀ := by omega
        simp [h1, h2]
      · rw [Finset.card_insert_of_notMem hkS]
        subst hk0
        have h1 : M ≠ 0 := by omega
        rw [if_neg hkS] at hcount
        simp only [Finset.mem_insert, h1, false_or, true_or, if_true]
        omega
    · rw [if_neg hk0] at ht
      have hkS2 : 2 * M - k₀ ∉ S := fun hin => hkS ((hsym k₀ (by omega) hk₀).mpr hin)
      have hne : 2 * M - k₀ ≠ k₀ := by omega
      by_cases hs1 : s = 1
      · have ht1 : t = 1 := by omega
        refine ⟨insert k₀ S, htop1, ?_, ?_, .inl ?_⟩
        · rw [Finset.card_insert_of_notMem hkS]; omega
        · rw [Finset.sum_insert hkS, h.sum, hf, hval, hv0, ht1]; push_cast; ring
        · omega
      · have ht2 : t = 2 := by omega
        have hkS3 : 2 * M - k₀ ∉ insert k₀ S := by simp [hne, hkS2]
        refine ⟨insert (2 * M - k₀) (insert k₀ S), ⟨?_, ?_⟩, ?_, ?_, .inr ⟨?_, ?_, ?_, ?_⟩⟩
        · intro i hi
          rcases Finset.mem_insert.mp hi with rfl | hi
          · exact Finset.mem_range.mpr (by omega)
          · exact htop1.1 hi
        · intro i hi j hj hjS
          rw [Finset.mem_insert, not_or] at hjS
          rcases Finset.mem_insert.mp hi with rfl | hi
          · rw [hmv k₀ (by omega) hk₀]
            exact hall j hj (fun hin => hjS.2 (Finset.mem_insert_of_mem hin))
          · exact htop1.2 i hi j hj hjS.2
        · rw [Finset.card_insert_of_notMem hkS3, Finset.card_insert_of_notMem hkS]; omega
        · rw [Finset.sum_insert hkS3, Finset.sum_insert hkS, h.sum, hf, hval, hv0, ht2, hmv k₀ (by omega) hk₀,
            hmc k₀ (by omega) hk₀]
          push_cast; ring
        · have h1 : M ≠ k₀ := by omega
          have h2 : M ≠ 2 * M - k₀ := by omega
          rw [hn', hn]; simp [h1, h2]
        · intro k hk
          rw [hm' k hk, hm k hk]
          simp only [Finset.mem_insert]
          have h2 : k ≠ 2 * M - k₀ := by omega
          by_cases hkk : k = k₀ <;> simp [hkk, h2]
        · intro k hk hkM
          simp only [Finset.mem_insert]
          rw [hsym k hk hkM]
          have h1 : (k = 2 * M - k₀ ↔ False) := ⟨fun h => by omega, False.elim⟩
          have h2 : (2 * M - k = k₀ ↔ False) := ⟨fun h => by omega, False.elim⟩
          have h3 : (2 * M - k = 2 * M - k₀ ↔ k = k₀) := by omega
          rw [h1, h2, h3]; tauto
        · rw [Finset.card_insert_of_notMem hkS3, Finset.card_insert_of_notMem hkS]
          have h1 : M ≠ k₀ := by omega
          have h2 : M ≠ 2 * M - k₀ := by omega
          have h3 : 0 ≠ k₀ := by omega
          have h4 : 0 ≠ 2 * M - k₀ := by omega
          simp only [Finset.mem_insert, h1, h2, h3, h4, false_or]
          omega

/-- After five rounds no place is left. -/
theorem Taken.full {m : ℕ → ℝ} {n : ℝ} {s : ℕ} {acc : ℝ} {S : Finset ℕ} (h : Taken M v c 5 m n s acc S) :
    S.card = 8 := by
  have hc := h.card
  rcases h.rest with hs | ⟨-, -, -, hs⟩
  · omega
  · have h1 : (if 0 ∈ S then 1 else 0) ≤ 1 := by split <;> omega
    have h2 : (if M ∈ S then 1 else 0) ≤ 1 := by split <;> omega
    omega

end Cert.Spectrum
end
-- ==== Proof.Step.lean ====
module
public import proofs.«01_k».proof.Proof.Pick
public import proofs.«01_k».proof.Proof.Rounds
@[expose] public section
noncomputable section
namespace Cert.RowOf
open Idealize.ShloMosaic Idealize.SL.Sem Idealize.ShloMosaic.ValueIdx
open Cert.KernelIdeal Cert.KernelIdeal.Gen Cert.Spectrum Cert.Scalars

/-- The state holds these squared magnitudes and this number of places left. -/
structure Rep (t : St Ideal) (m : ℕ → ℝ) (n : ℝ) (s : ℕ) : Prop where
  low : Is t.m (fun i j => m (i + 128 * j))
  top : t.n = ((n : ℝ) : EReal)
  left : t.s = BitVec.ofNat 32 s
  le : s ≤ 8

theorem word_freq (a b : Fin 128) :
    Scalar.addi (Scalar.shrsi (BitVec.ofNat 32 (128 * a.val + b.val)) 7#32)
      (Scalar.shli (Scalar.andi (BitVec.ofNat 32 (128 * a.val + b.val)) 127#32) 7#32) = BitVec.ofNat 32 (a.val + 128 * b.val) := by
  have ha := a.isLt
  have hb := b.isLt
  set w := BitVec.ofNat 32 (128 * a.val + b.val) with hw
  have hn : w.toNat = 128 * a.val + b.val := by rw [hw, BitVec.toNat_ofNat, Nat.mod_eq_of_lt (by omega)]
  have e1 : Scalar.shrsi w 7#32 = w >>> 7 := by
    unfold Scalar.shrsi IntOp.shrsi
    rw [if_pos (by decide)]
    show w.sshiftRight 7 = _
    rw [BitVec.sshiftRight_eq_of_msb_false (BitVec.msb_eq_false_iff_two_mul_lt.mpr (by rw [hn]; omega))]
  have e2 : Scalar.shli (Scalar.andi w 127#32) 7#32 = (w &&& 127#32) <<< 7 := by
    unfold Scalar.shli IntOp.shli
    rw [if_pos (by decide)]
    rfl
  rw [e1, e2]
  show w >>> 7 + (w &&& 127#32) <<< 7 = _
  apply BitVec.eq_of_toNat_eq
  rw [BitVec.toNat_add, BitVec.toNat_ushiftRight, BitVec.toNat_shiftLeft, BitVec.toNat_and, hn, BitVec.toNat_ofNat,
    BitVec.toNat_ofNat, show 127 % 2 ^ 32 = 2 ^ 7 - 1 from rfl, Nat.and_two_pow_sub_one_eq_mod, Nat.shiftRight_eq_div_pow, Nat.shiftLeft_eq,
    show (128 * a.val + b.val) / 2 ^ 7 = a.val by omega, show (128 * a.val + b.val) % 2 ^ 7 = b.val by omega]
  omega

theorem word_inj {p q : ℕ} (hp : p < 2 ^ 32) (hq : q < 2 ^ 32) : BitVec.ofNat 32 p = BitVec.ofNat 32 q ↔ p = q := by
  constructor
  · intro h
    have := congrArg BitVec.toNat h
    rwa [BitVec.toNat_ofNat, BitVec.toNat_ofNat, Nat.mod_eq_of_lt hp, Nat.mod_eq_of_lt hq] at this
  · rintro rfl; rfl

theorem word_min {s : ℕ} (hs : s ≤ 8) (t : ℕ) (ht : t = 1 ∨ t = 2) :
    Scalar.minsi (BitVec.ofNat 32 t) (BitVec.ofNat 32 s) = BitVec.ofNat 32 (min t s) := by
  rcases ht with rfl | rfl <;> interval_cases s <;> rfl

theorem word_sub {s k : ℕ} (hs : s ≤ 8) (hk : k ≤ s) :
    Scalar.subi (BitVec.ofNat 32 s) (BitVec.ofNat 32 k) = BitVec.ofNat 32 (s - k) := by
  interval_cases s <;> interval_cases k <;> rfl

theorem word_real {k : ℕ} (hk : k ≤ 8) : Scalar.sitofp (F := Ideal) .f32 (BitVec.ofNat 32 k) = (((k : ℕ) : ℝ) : EReal) := by
  have : (BitVec.ofNat 32 k).toInt = k := by interval_cases k <;> rfl
  show ((((BitVec.ofNat 32 k).toInt : ℤ) : ℝ) : EReal) = _
  rw [this, Int.cast_natCast]

theorem cmp_gt (x y : ℝ) : Ideal.cmp .ogt (x : EReal) (y : EReal) = if y < x then 1#1 else 0#1 := by
  unfold Ideal.cmp
  by_cases h : y < x <;> simp [h]

theorem replace_apply (p : IVec S128x128 32) (w : BitVec 32) (z : BitVec 1) (g : EReal) (x : Arr Ideal) (i : S128x128.Idx) :
    select (andi (cmpi .eq p (broadcast S128x128 w)) (broadcast S128x128 (Scalar.xori z 1#1))) (broadcast S128x128 g) x i
      = if p i = w ∧ z = 0#1 then g else x i := by
  show (if (BitVec.ofBool (p i == w) &&& (z ^^^ 1#1)) = 1#1 then g else x i) = _
  have h2 : z = 0#1 ∨ z = 1#1 := by
    revert z
    decide
  rcases h2 with h2 | h2 <;> by_cases h : p i = w
  · simp [h, h2]
  · have h3 : (p i == w) = false := beq_eq_false_iff_ne.mpr h
    simp [h, h2, h3]
  · simp [h, h2]
  · simp [h, h2]

theorem next_apply (t : St Ideal) (i : S128x128.Idx) : t.next.m i =
    if place i = first t.m ∧ t.high = 0#1 then Ideal.ofBits .f32 0xBF800000#32 else t.m i :=
  replace_apply place (first t.m) t.high (Ideal.ofBits .f32 0xBF800000#32) t.m i

/-- The greatest of the squared magnitudes below 16384. -/
theorem Rep.max {t : St Ideal} {m : ℕ → ℝ} {n : ℝ} {s : ℕ} (h : Rep t m n s) :
    ∃ a b : Fin 128, first t.m = BitVec.ofNat 32 (128 * a.val + b.val) ∧ greatest t.m = ((m (a.val + 128 * b.val) : ℝ) : EReal)
      ∧ ∀ k < 16384, m k ≤ m (a.val + 128 * b.val) := by
  obtain ⟨a, b, hf, hg⟩ := first_spec h.low
  obtain ⟨a', b', hg', hmax⟩ := greatest_spec h.low
  refine ⟨a, b, hf, hg, fun k hk => ?_⟩
  have e : m (a'.val + 128 * b'.val) = m (a.val + 128 * b.val) := EReal.coe_eq_coe_iff.mp (hg'.symm.trans hg)
  have := hmax ⟨k % 128, Nat.mod_lt _ (by norm_num)⟩ ⟨k / 128, by omega⟩
  rw [← e]
  refine le_trans (le_of_eq (congrArg m ?_)) this
  show k = k % 128 + 128 * (k / 128)
  omega

/-- One round on the arrays is one round on the numbers. -/
theorem Rep.round {t : St Ideal} {m : ℕ → ℝ} {n : ℝ} {s : ℕ} (h : Rep t m n s) :
    ∃ m' n' s' f k val, Round 16384 m n s m' n' s' f k val ∧ Rep t.next m' n' s' ∧ t.freq = BitVec.ofNat 32 f ∧ f ≤ 16384 ∧ k ≤ s
      ∧ t.coef = (((k : ℕ) : ℝ) : EReal) * Ideal.sqrt ((val : ℝ) : EReal) := by
  obtain ⟨a, b, hf, hg, hmax⟩ := h.max
  have ha := a.isLt
  have hb := b.isLt
  have hhigh : t.high = if m (a.val + 128 * b.val) < n then 1#1 else 0#1 := by
    have : t.high = Ideal.cmp .ogt t.n (greatest t.m) := rfl
    rw [this, h.top, hg, cmp_gt]
  have hk₀ : a.val + 128 * b.val < 16384 := by omega
  by_cases hc : m (a.val + 128 * b.val) < n
  · rw [if_pos hc] at hhigh
    have htake : t.take = BitVec.ofNat 32 (min 1 s) := by
      unfold St.take
      rw [hhigh, h.left, show Scalar.ori 1#1 (Scalar.cmpi .eq (first t.m) 0#32) = 1#1 by
        generalize Scalar.cmpi .eq (first t.m) 0#32 = z
        revert z
        decide]
      exact word_min h.le 1 (.inl rfl)
    refine ⟨m, -1, s - min 1 s, 16384, min 1 s, n, ⟨⟨_, hk₀, hmax, .inl ⟨hc, rfl, rfl, rfl, rfl, fun _ _ => rfl⟩⟩, rfl⟩,
      ⟨fun i j => ?_, ?_, ?_, by have := h.le; omega⟩, ?_, le_rfl, min_le_right _ _, ?_⟩
    · rw [next_apply, hhigh, if_neg (by simp)]
      exact h.low i j
    · unfold St.next
      rw [hhigh]
      exact lit_neg_one
    · have : t.next.s = Scalar.subi t.s t.take := rfl
      rw [this, htake, h.left]
      exact word_sub h.le (min_le_right _ _)
    · unfold St.freq
      rw [hhigh]
      rfl
    · unfold St.coef
      rw [htake, hhigh, word_real (by omega), h.top]
      rfl
  · rw [if_neg hc] at hhigh
    have hzero : Scalar.cmpi .eq (first t.m) 0#32 = if a.val + 128 * b.val = 0 then 1#1 else 0#1 := by
      show BitVec.ofBool (first t.m == 0#32) = _
      rw [hf]
      by_cases hz : a.val + 128 * b.val = 0
      · rw [if_pos hz, show 128 * a.val + b.val = 0 by omega]
        rfl
      · rw [if_neg hz, beq_eq_false_iff_ne.mpr]
        · rfl
        · rw [ne_eq, word_inj (by omega) (by norm_num)]
          omega
    have htake : t.take = BitVec.ofNat 32 (min (if a.val + 128 * b.val = 0 then 1 else 2) s) := by
      unfold St.take
      rw [hhigh, h.left, hzero]
      by_cases hz : a.val + 128 * b.val = 0
      · rw [if_pos hz, if_pos hz]
        exact word_min h.le 1 (.inl rfl)
      · rw [if_neg hz, if_neg hz]
        exact word_min h.le 2 (.inr rfl)
    refine ⟨fun k => if k = a.val + 128 * b.val then -1 else m k, n, s - min (if a.val + 128 * b.val = 0 then 1 else 2) s,
      a.val + 128 * b.val, min (if a.val + 128 * b.val = 0 then 1 else 2) s, m (a.val + 128 * b.val),
      ⟨⟨_, hk₀, hmax, .inr ⟨hc, rfl, rfl, rfl, rfl, fun _ _ => rfl⟩⟩, rfl⟩,
      ⟨fun i j => ?_, ?_, ?_, by have := h.le; omega⟩, ?_, hk₀.le, min_le_right _ _, ?_⟩
    · have hi := i.isLt
      have hj := j.isLt
      rw [next_apply, hhigh, place_apply, hf]
      dsimp only
      by_cases he : 128 * i.val + j.val = 128 * a.val + b.val
      · rw [if_pos ⟨by rw [he], rfl⟩, if_pos (by omega)]
        exact lit_neg_one
      · rw [if_neg fun q => he ((word_inj (by omega) (by omega)).mp q.1), if_neg (by omega)]
        exact h.low i j
    · unfold St.next
      rw [hhigh]
      exact h.top
    · have : t.next.s = Scalar.subi t.s t.take := rfl
      rw [this, htake, h.left]
      exact word_sub h.le (min_le_right _ _)
    · unfold St.freq
      rw [hhigh, hf]
      exact word_freq a b
    · unfold St.coef
      rw [htake, hhigh, word_real (by have := h.le; omega), hg]
      rfl

/-- What holds after some rounds, `acc` being the terms so far as they depend on the cosines' values `c`. -/
structure Held (v : ℕ → ℝ) (r : ℕ) (t : St Ideal) (acc : (ℕ → ℝ) → ℝ) : Prop where
  rep : ∃ m n s, Rep t m n s ∧ ∀ c : ℕ → ℝ, (∀ k, 0 < k → k < 16384 → c (2 * 16384 - k) = c k) →
    ∃ S, Taken 16384 v c r m n s (acc c) S

theorem Held.round {v : ℕ → ℝ} {r : ℕ} {t : St Ideal} {acc : (ℕ → ℝ) → ℝ} (hv : ∀ k, 0 ≤ v k)
    (hmv : ∀ k, 0 < k → k < 16384 → v (2 * 16384 - k) = v k) (h : Held v r t acc) :
    ∃ (f : ℕ) (q : ℝ), t.freq = BitVec.ofNat 32 f ∧ f ≤ 16384 ∧ t.coef = ((q : ℝ) : EReal)
      ∧ Held v (r + 1) t.next (fun c => acc c + q * c f) := by
  obtain ⟨m, n, s, hr, hT⟩ := h.rep
  obtain ⟨m', n', s', f, k, val, hround, hr', hfreq, hf, hk, hcoef⟩ := hr.round
  refine ⟨f, k * Real.sqrt val, hfreq, hf, ?_, ⟨m', n', s', hr', fun c hc => ?_⟩⟩
  · rw [hcoef, EReal.coe_mul]
    by_cases hs : s = 0
    · have : k = 0 := by omega
      rw [this, Nat.cast_zero, EReal.coe_zero, zero_mul, zero_mul]
    · rw [sqrt_coe]
      obtain ⟨S, hS⟩ := hT (fun _ => 0) fun _ _ _ => rfl
      obtain ⟨k₀, hk₀, hmax, ⟨hlt, -, -, hval, -⟩ | ⟨-, -, -, hval, -⟩⟩ := hround.step
      · rw [hval]
        exact (hS.nonneg (by norm_num) hv hs hmax).trans hlt.le
      · rw [hval]
        exact hS.nonneg (by norm_num) hv hs hmax
  · obtain ⟨S, hS⟩ := hT c hc
    exact hS.round (by norm_num) hv hmv hc hround

/-- The frequencies and coefficients of the five rounds: their terms sum to those of eight greatest squared magnitudes. -/
theorem rounds_eq {v : ℕ → ℝ} (hv : ∀ k, 0 ≤ v k) (hmv : ∀ k, 0 < k → k < 16384 → v (2 * 16384 - k) = v k)
    {m : Arr Ideal} {n : EReal} (hm : Is m (fun i j => v (i + 128 * j))) (hn : n = ((v 16384 : ℝ) : EReal)) :
    ∃ (f : Fin 5 → ℕ) (q : Fin 5 → ℝ), (∀ j, (states (F := Ideal) ⟨m, n, 8#32⟩ j).freq = BitVec.ofNat 32 (f j)) ∧ (∀ j, f j ≤ 16384)
      ∧ (∀ j, (states (F := Ideal) ⟨m, n, 8#32⟩ j).coef = ((q j : ℝ) : EReal))
      ∧ ∀ c : ℕ → ℝ, (∀ k, 0 < k → k < 16384 → c (2 * 16384 - k) = c k) →
        ∃ S, IsTop (2 * 16384) v S ∧ S.card = 8 ∧ ∑ j, q j * c (f j) = ∑ i ∈ S, Real.sqrt (v i) * c i := by
  have h0 : Held v 0 (⟨m, n, 8#32⟩ : St Ideal) (fun _ => 0) :=
    ⟨v, v 16384, 8, ⟨hm, hn, rfl, le_rfl⟩, fun c _ => ⟨∅, Taken.start v fun _ _ => rfl⟩⟩
  obtain ⟨f0, q0, a0, b0, c0, h1⟩ := h0.round hv hmv
  obtain ⟨f1, q1, a1, b1, c1, h2⟩ := h1.round hv hmv
  obtain ⟨f2, q2, a2, b2, c2, h3⟩ := h2.round hv hmv
  obtain ⟨f3, q3, a3, b3, c3, h4⟩ := h3.round hv hmv
  obtain ⟨f4, q4, a4, b4, c4, h5⟩ := h4.round hv hmv
  refine ⟨![f0, f1, f2, f3, f4], ![q0, q1, q2, q3, q4], fun j => ?_, fun j => ?_, fun j => ?_, fun c hc => ?_⟩
  · exact match j with | 0 => a0 | 1 => a1 | 2 => a2 | 3 => a3 | 4 => a4
  · exact match j with | 0 => b0 | 1 => b1 | 2 => b2 | 3 => b3 | 4 => b4
  · exact match j with | 0 => c0 | 1 => c1 | 2 => c2 | 3 => c3 | 4 => c4
  · obtain ⟨_, _, _, -, hT⟩ := h5.rep
    obtain ⟨S, hS⟩ := hT c hc
    refine ⟨S, hS.top, hS.full, ?_⟩
    rw [← hS.sum]
    simp [Fin.sum_univ_five]

end Cert.RowOf
end
-- ==== Proof.Waves.lean ====
module
public import proofs.«01_k».proof.Proof.Reals
@[expose] public section
noncomputable section
namespace Cert.RowOf
open Idealize.ShloMosaic Idealize.SL.Sem Idealize.ShloMosaic.ValueIdx
open Cert.KernelIdeal Cert.KernelIdeal.Gen Cert.Spectrum Cert.Scalars
open scoped BigOperators

/-- The named constant is the angle of one 32768th of a turn. -/
theorem rad_eq : Named.named (F := Ideal) (φ := .f32) κ "rad" 0x39490FDB#32 = ((2 * Real.pi / 32768 : ℝ) : EReal) := by
  have h : Named.named (F := Ideal) (φ := .f32) κ "rad" 0x39490FDB#32 = ((Real.pi * 16384⁻¹ : ℝ) : EReal) := rfl
  rw [h]
  congr 1
  ring

/-- The word kept to its lowest fifteen bits, as a real. -/
theorem low_angle (p q r : ℕ) (h : p * q % 32768 = r) :
    ((((BitVec.ofNat 32 p * BitVec.ofNat 32 q) &&& 32767#32).toInt : ℝ) : EReal) = ((r : ℝ) : EReal) := by
  have e : ((BitVec.ofNat 32 p * BitVec.ofNat 32 q) &&& 32767#32).toNat = p * q % 32768 := by
    rw [BitVec.toNat_and, BitVec.toNat_mul, BitVec.toNat_ofNat, BitVec.toNat_ofNat, ← Nat.mul_mod,
      show (32767#32).toNat = 2 ^ 15 - 1 from rfl, Nat.and_two_pow_sub_one_eq_mod]
    exact Nat.mod_mod_of_dvd _ ⟨2 ^ 17, by norm_num⟩
  rw [BitVec.toInt_eq_toNat_of_lt (by rw [e]; have := Nat.mod_lt (p * q) (show 0 < 32768 by norm_num); omega), e, h, Int.cast_natCast]

variable {k : Fin 5 → BitVec 32} {f : Fin 5 → ℕ} {c : Fin 5 → Ideal .f32} {q : Fin 5 → ℝ}

/-- The pair of a column. -/
def half5 (p : Fin 10) : Fin 5 := ⟨p.val / 2, by have := p.isLt; omega⟩

theorem pairCol_apply (j : Fin 5) (p : Fin 10) : pairCol (BitVec.ofNat 32 j.val) (ix2 (0 : Fin 1) p) = if half5 p = j then 1#1 else 0#1 := by
  fin_cases j <;> fin_cases p <;> rfl

theorem pairRow_apply (j : Fin 5) (p : Fin 10) : pairRow (BitVec.ofNat 32 j.val) (ix2 p (0 : Fin 1)) = if half5 p = j then 1#1 else 0#1 := by
  fin_cases j <;> fin_cases p <;> rfl

/-- Of five choices the one that holds. -/
theorem choose5 {α : Type} (b : Fin 5 → BitVec 1) (x : Fin 5 → α) (z : α) (j : Fin 5) (h : ∀ i, b i = if j = i then 1#1 else 0#1) :
    Scalar.select (b 4) (x 4) (Scalar.select (b 3) (x 3) (Scalar.select (b 2) (x 2) (Scalar.select (b 1) (x 1) (Scalar.select (b 0) (x 0) z)))) = x j := by
  rw [h, h, h, h, h]
  fin_cases j <;> rfl

theorem freqCols_apply (p : Fin 10) : freqCols k (ix2 (0 : Fin 1) p) = k (half5 p) :=
  choose5 (fun j => pairCol (BitVec.ofNat 32 j.val) (ix2 (0 : Fin 1) p)) k 0#32 (half5 p) fun i => pairCol_apply i p

theorem freqRows_apply (p : Fin 10) : freqRows k (ix2 p (0 : Fin 1)) = k (half5 p) :=
  choose5 (fun j => pairRow (BitVec.ofNat 32 j.val) (ix2 p (0 : Fin 1))) k 0#32 (half5 p) fun i => pairRow_apply i p

theorem coefCols_apply (p : Fin 10) : coefCols (F := Ideal) c (ix2 (0 : Fin 1) p) = c (half5 p) :=
  choose5 (fun j => pairCol (BitVec.ofNat 32 j.val) (ix2 (0 : Fin 1) p)) c (Ideal.ofBits .f32 0x00000000#32) (half5 p) fun i => pairCol_apply i p

/-- A row of columns repeated. -/
theorem cols_apply {α : Type} (x : S1x10.Idx → α) (a : Fin 128) (p : Fin 10) :
    broadcastTo S128x10 x broadcasts_S1x10_S128x10 (ix2 a p) = x (ix2 (0 : Fin 1) p) :=
  congrArg x (funext fun b => match b with | ⟨0, _⟩ => rfl | ⟨1, _⟩ => rfl)

theorem side_apply {α : Type} (x : S128x1.Idx → α) (a : Fin 128) (p : Fin 10) :
    broadcastTo S128x10 x broadcasts_S128x1_S128x10 (ix2 a p) = x (ix2 a (0 : Fin 1)) :=
  congrArg x (funext fun b => match b with | ⟨0, _⟩ => rfl | ⟨1, _⟩ => rfl)

theorem rows_apply {α : Type} (x : S10x1.Idx → α) (p : Fin 10) (b : Fin 256) :
    broadcastTo S10x256 x broadcasts_S10x1_S10x256 (ix2 p b) = x (ix2 p (0 : Fin 1)) :=
  congrArg x (funext fun b => match b with | ⟨0, _⟩ => rfl | ⟨1, _⟩ => rfl)

theorem line_apply {α : Type} (x : S1x256.Idx → α) (p : Fin 10) (b : Fin 256) :
    broadcastTo S10x256 x broadcasts_S1x256_S10x256 (ix2 p b) = x (ix2 (0 : Fin 1) b) :=
  congrArg x (funext fun b => match b with | ⟨0, _⟩ => rfl | ⟨1, _⟩ => rfl)

/-- The angle of a number of 32768ths of a turn. -/
def ang (n : ℕ) : ℝ := 2 * Real.pi * ((n % 32768 : ℕ) : ℝ) / 32768

theorem angle_apply {s : Shape} (u v : IVec s 32) (r : EReal) (i : s.Idx) :
    mulf (F := Ideal) (φ := .f32) (sitofp .f32 (andi (muli u v) (broadcast s 32767#32))) (broadcast s r) i
      = ((((u i * v i) &&& 32767#32).toInt : ℝ) : EReal) * r := rfl

theorem angleA_apply (hk : ∀ j, k j = BitVec.ofNat 32 (f j)) (a : Fin 128) (p : Fin 10) :
    angleA (F := Ideal) (freqCols k) (ix2 a p) = ((ang (256 * a.val * f (half5 p)) : ℝ) : EReal) := by
  have e := angle_apply (broadcastTo S128x10 (muli (iota .tc S128x1 32 [0] iota_S128x1_d0_w32) (broadcast S128x1 256#32)) broadcasts_S128x1_S128x10)
    (broadcastTo S128x10 (freqCols k) broadcasts_S1x10_S128x10) (Named.named (F := Ideal) (φ := .f32) κ "rad" 0x39490FDB#32) (ix2 a p)
  have hs : muli (iota .tc S128x1 32 [0] iota_S128x1_d0_w32) (broadcast S128x1 256#32) (ix2 a (0 : Fin 1)) = BitVec.ofNat 32 (256 * a.val) := by
    show BitVec.ofNat 32 (0 * 128 + a.val) * BitVec.ofNat 32 256 = _
    rw [← BitVec.ofNat_mul]
    congr 1
    omega
  refine Eq.trans e ?_
  rw [side_apply, cols_apply, freqCols_apply, hk, hs, low_angle _ _ _ rfl, rad_eq, ← EReal.coe_mul, ang]
  congr 1
  ring

theorem angleB_apply (hk : ∀ j, k j = BitVec.ofNat 32 (f j)) (p : Fin 10) (b : Fin 256) :
    angleB (F := Ideal) (freqRows k) (ix2 p b) = ((ang (f (half5 p) * b.val) : ℝ) : EReal) := by
  have e := angle_apply (broadcastTo S10x256 (freqRows k) broadcasts_S10x1_S10x256)
    (broadcastTo S10x256 (iota .tc S1x256 32 [1] iota_S1x256_d1_w32) broadcasts_S1x256_S10x256)
    (Named.named (F := Ideal) (φ := .f32) κ "rad" 0x39490FDB#32) (ix2 p b)
  have hs : iota .tc S1x256 32 [1] iota_S1x256_d1_w32 (ix2 (0 : Fin 1) b) = BitVec.ofNat 32 b.val := by
    show BitVec.ofNat 32 (0 * 256 + b.val) = _
    congr 1
    omega
  refine Eq.trans e ?_
  rw [rows_apply, line_apply, freqRows_apply, hk, hs, low_angle _ _ _ rfl, rad_eq, ← EReal.coe_mul, ang]
  congr 1
  ring

/-- Whether a column is the first of its pair. -/
def evenCols : IVec S1x10 1 := shapeCast S1x10 (cmpi .eq (andi (iota .tc S1x10 32 [1] iota_S1x10_d1_w32) (broadcast S1x10 1#32))
  (broadcast S1x10 0#32)) shapeCasts_S1x10_S1x10

def evenRows : IVec S10x1 1 := shapeCast S10x1 (cmpi .eq (andi (iota .tc S10x1 32 [0] iota_S10x1_d0_w32) (broadcast S10x1 1#32))
  (broadcast S10x1 0#32)) shapeCasts_S10x1_S10x1

theorem evenCols_apply (p : Fin 10) : evenCols (ix2 (0 : Fin 1) p) = if p.val % 2 = 0 then 1#1 else 0#1 := by
  have e : evenCols (ix2 (0 : Fin 1) p) = (cmpi .eq (andi (iota .tc S1x10 32 [1] iota_S1x10_d1_w32) (broadcast S1x10 1#32))
    (broadcast S1x10 0#32)) (ix2 (0 : Fin 1) p) := shapeCast_apply _ _ _ _ rfl
  rw [e]
  fin_cases p <;> rfl

theorem evenRows_apply (p : Fin 10) : evenRows (ix2 p (0 : Fin 1)) = if p.val % 2 = 0 then 1#1 else 0#1 := by
  have e : evenRows (ix2 p (0 : Fin 1)) = (cmpi .eq (andi (iota .tc S10x1 32 [0] iota_S10x1_d0_w32) (broadcast S10x1 1#32))
    (broadcast S10x1 0#32)) (ix2 p (0 : Fin 1)) := shapeCast_apply _ _ _ _ rfl
  rw [e]
  fin_cases p <;> rfl

/-- The factor that depends on the group of samples. -/
theorem left_apply (hc : ∀ j, c j = ((q j : ℝ) : EReal)) (x : FVec Ideal S128x10 .f32) (y : ℝ) (a : Fin 128) (p : Fin 10)
    (hx : x (ix2 a p) = ((y : ℝ) : EReal)) :
    left (F := Ideal) (coefCols c) x (ix2 a p) = ((if p.val % 2 = 0 then q (half5 p) * Real.cos y else -q (half5 p) * Real.sin y : ℝ) : EReal) := by
  have e : left (F := Ideal) (coefCols c) x (ix2 a p) = Scalar.select (broadcastTo S128x10 evenCols broadcasts_S1x10_S128x10 (ix2 a p))
      (broadcastTo S128x10 (coefCols c) broadcasts_S1x10_S128x10 (ix2 a p) * Ideal.cos (x (ix2 a p)))
      (broadcastTo S128x10 (subf (broadcast S1x10 (Ideal.ofBits .f32 0x00000000#32)) (coefCols c)) broadcasts_S1x10_S128x10 (ix2 a p)
        * Ideal.sin (x (ix2 a p))) := rfl
  have hz : subf (broadcast S1x10 (Ideal.ofBits .f32 0x00000000#32)) (coefCols c) (ix2 (0 : Fin 1) p)
      = Ideal.ofBits .f32 0x00000000#32 - coefCols (F := Ideal) c (ix2 (0 : Fin 1) p) := rfl
  rw [e, cols_apply, cols_apply, cols_apply, evenCols_apply, hz, coefCols_apply, hc, hx, cos_coe, sin_coe, lit_zero, ← EReal.coe_sub, zero_sub,
    ← EReal.coe_mul, ← EReal.coe_mul]
  by_cases h : p.val % 2 = 0
  · rw [if_pos h, if_pos h]
    rfl
  · rw [if_neg h, if_neg h]
    rfl

/-- The factor that depends on the sample within its group. -/
theorem right_apply (x : FVec Ideal S10x256 .f32) (y : ℝ) (p : Fin 10) (b : Fin 256) (hx : x (ix2 p b) = ((y : ℝ) : EReal)) :
    right x (ix2 p b) = ((if p.val % 2 = 0 then Real.cos y else Real.sin y : ℝ) : EReal) := by
  have e : right x (ix2 p b) = Scalar.select (broadcastTo S10x256 evenRows broadcasts_S10x1_S10x256 (ix2 p b))
      (Ideal.cos (x (ix2 p b))) (Ideal.sin (x (ix2 p b))) := rfl
  rw [e, rows_apply, evenRows_apply, hx, cos_coe, sin_coe]
  by_cases h : p.val % 2 = 0
  · rw [if_pos h, if_pos h]
    rfl
  · rw [if_neg h, if_neg h]
    rfl

/-- A row of the result: the five cosines' sum. -/
theorem wavesOf_apply (hk : ∀ j, k j = BitVec.ofNat 32 (f j)) (hc : ∀ j, c j = ((q j : ℝ) : EReal)) (a : Fin 128) (b : Fin 256) :
    wavesOf (F := Ideal) k c (ix2 a b) = (((∑ j, q j * wave (256 * a.val + b.val) (f j)) / 32768 : ℝ) : EReal) := by
  have e : wavesOf (F := Ideal) k c (ix2 a b) = (Ideal.ofBits .f32 0x00000000#32
      + ∑ p : Fin 10, left (F := Ideal) (coefCols c) (angleA (freqCols k)) (ix2 a p) * right (angleB (freqRows k)) (ix2 p b))
      * Ideal.ofBits .f32 0x38000000#32 :=
    congrArg (· * Ideal.ofBits .f32 0x38000000#32) (Ideal.matmul_plain_apply (some .fp32) (left (F := Ideal) (coefCols c) (angleA (freqCols k)))
      (right (angleB (freqRows k))) (constant S128x256 .f32 0x00000000#32) a b)
  have hs : ∑ p : Fin 10, left (F := Ideal) (coefCols c) (angleA (freqCols k)) (ix2 a p) * right (angleB (freqRows k)) (ix2 p b)
      = ((∑ j, q j * wave (256 * a.val + b.val) (f j) : ℝ) : EReal) := by
    have h1 : ∀ p : Fin 10, left (F := Ideal) (coefCols c) (angleA (freqCols k)) (ix2 a p) * right (angleB (freqRows k)) (ix2 p b) =
        (((if p.val % 2 = 0 then q (half5 p) * Real.cos (ang (256 * a.val * f (half5 p))) else -q (half5 p) * Real.sin (ang (256 * a.val * f (half5 p))))
          * (if p.val % 2 = 0 then Real.cos (ang (f (half5 p) * b.val)) else Real.sin (ang (f (half5 p) * b.val))) : ℝ) : EReal) := fun p => by
      rw [left_apply hc _ _ a p (angleA_apply hk a p), right_apply _ _ p b (angleB_apply hk p b), EReal.coe_mul]
    rw [Finset.sum_congr rfl fun p _ => h1 p, sum_coe]
    refine congrArg (fun z : ℝ => (z : EReal)) ?_
    have hw : ∀ j, wave (256 * a.val + b.val) (f j) = Real.cos (ang (256 * a.val * f j)) * Real.cos (ang (f j * b.val))
        - Real.sin (ang (256 * a.val * f j)) * Real.sin (ang (f j * b.val)) := fun j => wave_add _ _ _
    rw [Finset.sum_congr rfl fun j _ => congrArg (q j * ·) (hw j)]
    simp [Fin.sum_univ_succ, half5]
    ring
  rw [e, hs, lit_zero, lit_inv, EReal.coe_zero, zero_add, ← EReal.coe_mul]
  refine congrArg (fun z : ℝ => (z : EReal)) ?_
  ring

end Cert.RowOf
end
-- ==== Proof.Line.lean ====
module
public import proofs.«01_k».proof.Proof.Step
public import proofs.«01_k».proof.Proof.Waves
@[expose] public section
noncomputable section
namespace Cert.RowOf
open Idealize.ShloMosaic Idealize.SL.Sem Idealize.ShloMosaic.ValueIdx
open Cert.KernelIdeal Cert.KernelIdeal.Gen Cert.Spectrum Cert.Scalars
open scoped BigOperators

/-- The tables' arrays hold the real and imaginary parts of powers of the root. -/
structure Rooted (fr fi wr wi hr hi : Arr Ideal) : Prop where
  fr : Is fr (fun i j => (root (256 * (i * j))).re)
  fi : Is fi (fun i j => (root (256 * (i * j))).im)
  wr : Is wr (fun i j => (root (2 * (i * j))).re)
  wi : Is wi (fun i j => (root (2 * (i * j))).im)
  hr : Is hr (fun i j => (root (i + 128 * j)).re)
  hi : Is hi (fun i j => (root (i + 128 * j)).im)

theorem tables_root : Tables (fun i j => (root (256 * (i * j))).re) (fun i j => (root (256 * (i * j))).im)
    (fun i j => (root (2 * (i * j))).re) (fun i j => (root (2 * (i * j))).im)
    (fun i j => (root (i + 128 * j)).re) (fun i j => (root (i + 128 * j)).im) where
  f i j := Complex.re_add_im _
  w i j := Complex.re_add_im _
  h i j := Complex.re_add_im _

theorem same_apply {α : Type} (x : S128x128.Idx → α) (i j : Fin 128) :
    shapeCast S128x128 x shapeCasts_S128x128_S128x128 (ix2 i j) = x (ix2 i j) := shapeCast_apply _ _ _ _ rfl

theorem Is.same {a : Arr Ideal} {f : ℕ → ℕ → ℝ} (h : Is a f) : Is (shapeCast S128x128 a shapeCasts_S128x128_S128x128) f :=
  fun i j => (same_apply a i j).trans (h i j)

/-- The five rounds on a row's squared magnitudes leave the eight-frequency sum. -/
theorem select8_apply {ye yo fr fi wr wi hr hi : Arr Ideal} {y : ℕ → ℝ} (he : Is ye (fun i j => y (256 * i + 2 * j)))
    (ho : Is yo (fun i j => y (256 * i + 2 * j + 1))) (ht : Rooted fr fi wr wi hr hi) (a : Fin 128) (b : Fin 256) :
    ∃ S, IsTop 32768 (power y) S ∧ S.card = 8 ∧
      select8 (F := Ideal) (squares ye yo fr fi wr wi hr hi) (Scalar.mulf (nyquist ye yo) (nyquist ye yo)) (ix2 a b)
      = (((∑ k ∈ S, Real.sqrt (power y k) * wave (256 * a.val + b.val) k) / 32768 : ℝ) : EReal) := by
  have hsq := he.squares ho ht.fr ht.fi ht.wr ht.wi ht.hr ht.hi
  rw [show tile (fun i j => y (256 * i + 2 * j)) (fun i j => y (256 * i + 2 * j + 1)) _ _ _ _ _ _ = (fun i j => power y (i + 128 * j)) from
    funext fun i => funext fun j => tile_eq tables_root y i j] at hsq
  have hn := nyquist_eq he ho
  have hny : Scalar.mulf (F := Ideal) (φ := .f32) (nyquist ye yo) (nyquist ye yo) = ((power y 16384 : ℝ) : EReal) := by
    refine Eq.trans (congrArg₂ (fun u v : EReal => u * v) hn hn) ?_
    rw [← EReal.coe_mul, power_nyquist]
  obtain ⟨f, q, hf, -, hq, hS⟩ := rounds_eq (v := power y) (power_nonneg y)
    (fun k _ hk => power_mirror y (by omega)) hsq hny
  obtain ⟨S, hS1, hS2, hS3⟩ := hS (wave (256 * a.val + b.val)) fun k _ hk => wave_mirror _ (by omega)
  refine ⟨S, hS1, hS2, ?_⟩
  rw [← hS3]
  exact wavesOf_apply hf hq a b

/-- A row of the result is the eight-frequency sum of its samples. -/
theorem rowOut_apply {xe xo : Vec Ideal S1x128x128 .f32} {we wo fr fi wr wi hr hi : Vec Ideal S128x128 .f32} {y : ℕ → ℝ}
    (hye : ∀ i j : Fin 128, xe (ix3 (0 : Fin 1) i j) * we (ix2 i j) = ((y (256 * i.val + 2 * j.val) : ℝ) : EReal))
    (hyo : ∀ i j : Fin 128, xo (ix3 (0 : Fin 1) i j) * wo (ix2 i j) = ((y (256 * i.val + 2 * j.val + 1) : ℝ) : EReal))
    (ht : Rooted fr fi wr wi hr hi) (a : Fin 128) (b : Fin 256) :
    ∃ S, IsTop 32768 (power y) S ∧ S.card = 8 ∧ rowOut (F := Ideal) xe xo we wo fr fi wr wi hr hi (ix2 a b)
      = (((∑ k ∈ S, Real.sqrt (power y k) * wave (256 * a.val + b.val) k) / 32768 : ℝ) : EReal) := by
  have he : Is (mulf (F := Ideal) (φ := .f32) (shapeCast S128x128 xe shapeCasts_S1x128x128_S128x128) (shapeCast S128x128 we shapeCasts_S128x128_S128x128))
      (fun i j => y (256 * i + 2 * j)) := fun i j => by
    refine Eq.trans ?_ (hye i j)
    exact congrArg₂ (fun u v : EReal => u * v) (shapeCast_1ab_ab_apply xe _ i j) (same_apply we i j)
  have ho : Is (mulf (F := Ideal) (φ := .f32) (shapeCast S128x128 xo shapeCasts_S1x128x128_S128x128) (shapeCast S128x128 wo shapeCasts_S128x128_S128x128))
      (fun i j => y (256 * i + 2 * j + 1)) := fun i j => by
    refine Eq.trans ?_ (hyo i j)
    exact congrArg₂ (fun u v : EReal => u * v) (shapeCast_1ab_ab_apply xo _ i j) (same_apply wo i j)
  exact select8_apply he ho ⟨ht.fr.same, ht.fi.same, ht.wr.same, ht.wi.same, ht.hr.same, ht.hi.same⟩ a b

end Cert.RowOf
end
-- ==== Proof.Tables.lean ====
module
public import proofs.«01_k».proof.Proof.Prefix
public import proofs.«01_k».proof.Proof.Line
public import Idealize.ShloMosaic.Lib.StableHlo.Predicate
@[expose] public section
noncomputable section
namespace Cert.Prefix
open Idealize.ShloMosaic Idealize.SL.Sem Idealize.ShloMosaic.ValueIdx
open Cert.KernelIdeal Cert.KernelIdeal.Gen Cert.Spectrum Cert.Scalars Cert.RowOf

theorem evens_apply (i j : Fin 128) : evens (ix2 i j) = BitVec.ofNat 32 (256 * i.val + 2 * j.val) := by
  show 256#32 * BitVec.ofNat 32 i.val + 2#32 * BitVec.ofNat 32 j.val = _
  rw [BitVec.ofNat_add, BitVec.ofNat_mul, BitVec.ofNat_mul]

theorem odds_apply (i j : Fin 128) : odds (ix2 i j) = BitVec.ofNat 32 (256 * i.val + 2 * j.val + 1) := by
  show evens (ix2 i j) + 1#32 = _
  rw [evens_apply]
  exact (BitVec.ofNat_add (256 * i.val + 2 * j.val) 1).symm

theorem products_apply (i j : Fin 128) : products (ix2 i j) = BitVec.ofNat 32 (i.val * j.val) := by
  show BitVec.ofNat 32 i.val * BitVec.ofNat 32 j.val = _
  rw [BitVec.ofNat_mul]

theorem places_apply (i j : Fin 128) : places (ix2 i j) = BitVec.ofNat 32 (i.val + 128 * j.val) := by
  show BitVec.ofNat 32 i.val + 128#32 * BitVec.ofNat 32 j.val = _
  rw [BitVec.ofNat_add, BitVec.ofNat_mul]

theorem turns_apply {w : IVec S128x128 32} {d : BitVec 32} {D : ℝ} {n : ℕ} {i : S128x128.Idx} (hw : w i = BitVec.ofNat 32 n)
    (hn : n < 2 ^ 31) (hd : Ideal.ofBits .f32 d = (D : EReal)) (hD : D ≠ 0) :
    turns (F := Ideal) w d i = ((2 * Real.pi * n / D : ℝ) : EReal) := by
  show Ideal.div ((Ideal.ofBits .f32 0x40000000#32 * Ideal.atan2 (Ideal.ofBits .f32 0x00000000#32) (Ideal.ofBits .f32 0xBF800000#32))
    * (((w i).toInt : ℝ) : EReal)) (Ideal.ofBits .f32 d) = _
  rw [hw, StableHlo.Predicate.toInt_ofNat_small n hn, turn, hd, ← EReal.coe_mul, div_coe _ _ hD, Int.cast_natCast]

theorem cos_turns {w : IVec S128x128 32} {d : BitVec 32} {D : ℝ} {n k : ℕ} {i : S128x128.Idx} (hw : w i = BitVec.ofNat 32 n)
    (hn : n < 2 ^ 31) (hd : Ideal.ofBits .f32 d = (D : EReal)) (hD : D ≠ 0) (hk : (k : ℝ) * D = n * 32768) :
    Host.cos (turns (F := Ideal) w d) i = (((root k).re : ℝ) : EReal) := by
  refine Eq.trans (congrArg (fun z : EReal => Ideal.cos z) (turns_apply hw hn hd hD)) ?_
  refine (cos_coe _).trans (congrArg (fun z : ℝ => (z : EReal)) ?_)
  rw [root_re]
  congr 1
  rw [div_eq_div_iff hD (by norm_num)]
  linear_combination (-2 * Real.pi) * hk

theorem sin_turns {w : IVec S128x128 32} {d : BitVec 32} {D : ℝ} {n k : ℕ} {i : S128x128.Idx} (hw : w i = BitVec.ofNat 32 n)
    (hn : n < 2 ^ 31) (hd : Ideal.ofBits .f32 d = (D : EReal)) (hD : D ≠ 0) (hk : (k : ℝ) * D = n * 32768) :
    Host.negf (Host.sin (turns (F := Ideal) w d)) i = (((root k).im : ℝ) : EReal) := by
  refine Eq.trans (congrArg (fun z : EReal => -(Ideal.sin z)) (turns_apply hw hn hd hD)) ?_
  refine (congrArg (fun z : EReal => -z) (sin_coe _)).trans ?_
  rw [← EReal.coe_neg]
  refine congrArg (fun z : ℝ => (z : EReal)) ?_
  rw [root_im]
  congr 2
  rw [div_eq_div_iff hD (by norm_num)]
  linear_combination (-2 * Real.pi) * hk

theorem window_apply {w : IVec S128x128 32} {n : ℕ} {i : S128x128.Idx} (hw : w i = BitVec.ofNat 32 n) (hn : n < 2 ^ 31) :
    window (F := Ideal) w i = ((hann n : ℝ) : EReal) := by
  show Ideal.ofBits .f32 0x3F000000#32 * (Ideal.ofBits .f32 0x3F800000#32 - Ideal.cos (turns (F := Ideal) w 0x47000000#32 i)) = _
  rw [turns_apply hw hn lit_32768 (by norm_num), lit_half, lit_one, cos_coe, ← EReal.coe_sub, ← EReal.coe_mul]
  rfl

/-- The six tables of the transform hold the powers of the root. -/
theorem rooted : Rooted (Host.cos (turns (F := Ideal) products 0x43000000#32)) (Host.negf (Host.sin (turns (F := Ideal) products 0x43000000#32)))
    (Host.cos (turns (F := Ideal) products 0x46800000#32)) (Host.negf (Host.sin (turns (F := Ideal) products 0x46800000#32)))
    (Host.cos (turns (F := Ideal) places 0x47000000#32)) (Host.negf (Host.sin (turns (F := Ideal) places 0x47000000#32))) := by
  have hp (i j : Fin 128) : i.val * j.val < 2 ^ 31 := lt_of_le_of_lt (Nat.mul_le_mul i.isLt.le j.isLt.le) (by norm_num)
  have hq (i j : Fin 128) : i.val + 128 * j.val < 2 ^ 31 := by omega
  constructor <;> intro i j
  · exact cos_turns (products_apply i j) (hp i j) lit_128 (by norm_num) (by push_cast; ring)
  · exact sin_turns (products_apply i j) (hp i j) lit_128 (by norm_num) (by push_cast; ring)
  · exact cos_turns (products_apply i j) (hp i j) lit_16384 (by norm_num) (by push_cast; ring)
  · exact sin_turns (products_apply i j) (hp i j) lit_16384 (by norm_num) (by push_cast; ring)
  · exact cos_turns (places_apply i j) (hq i j) lit_32768 (by norm_num) (by push_cast; ring)
  · exact sin_turns (places_apply i j) (hq i j) lit_32768 (by norm_num) (by push_cast; ring)

theorem laid_apply (X : FVec Ideal S128x32768x1 .f32) (r i : Fin 128) (j : Fin 256) (n : Fin 32768) (hn : n.val = 256 * i.val + j.val) :
    laid X (ix3 r i j) = X (ix3 r n (0 : Fin 1)) := by
  unfold laid
  rw [shapeCast_apply _ _ _ (ix2 r n) (by rw [Shape.rowMajor_val_two, Shape.rowMajor_val_three]; show r.val * 32768 + n.val = (r.val * 128 + i.val) * 256 + j.val; omega),
    shapeCast_apply _ _ _ (ix3 r n (0 : Fin 1)) (by rw [Shape.rowMajor_val_two, Shape.rowMajor_val_three]; show (r.val * 32768 + n.val) * 1 + 0 = r.val * 32768 + n.val; omega)]

theorem evenSamples_apply (X : FVec Ideal S128x32768x1 .f32) (r i j : Fin 128) (n : Fin 32768) (hn : n.val = 256 * i.val + 2 * j.val) :
    evenSamples X (ix3 r i j) = X (ix3 r n (0 : Fin 1)) := by
  refine Eq.trans ?_ (laid_apply X r i ⟨2 * j.val, by omega⟩ n hn)
  unfold evenSamples Host.slice
  refine congrArg (laid X) (funext fun a => Fin.ext ?_)
  match a with
  | ⟨0, _⟩ => show 0 + 1 * r.val = r.val; omega
  | ⟨1, _⟩ => show 0 + 1 * i.val = i.val; omega
  | ⟨2, _⟩ => show 0 + 2 * j.val = 2 * j.val; omega

theorem oddSamples_apply (X : FVec Ideal S128x32768x1 .f32) (r i j : Fin 128) (n : Fin 32768) (hn : n.val = 256 * i.val + 2 * j.val + 1) :
    oddSamples X (ix3 r i j) = X (ix3 r n (0 : Fin 1)) := by
  refine Eq.trans ?_ (laid_apply X r i ⟨2 * j.val + 1, by omega⟩ n hn)
  unfold oddSamples Host.slice
  refine congrArg (laid X) (funext fun a => Fin.ext ?_)
  match a with
  | ⟨0, _⟩ => show 0 + 1 * r.val = r.val; omega
  | ⟨1, _⟩ => show 0 + 1 * i.val = i.val; omega
  | ⟨2, _⟩ => show 1 + 2 * j.val = 2 * j.val + 1; omega
end Cert.Prefix
end
-- ==== Proof.Final.lean ====
module
public import proofs.«01_k».proof.Proof.Whole
public import proofs.«01_k».proof.Proof.Tables
public import proofs.«01_k».proof.Proof.Ref
@[expose] public section
noncomputable section
namespace Cert.RowOf
open Idealize.ShloMosaic Idealize.ShloMosaic.TcCoe Idealize.SL.Sem Idealize.ShloMosaic.ValueIdx
open Cert.KernelIdeal Cert.KernelIdeal.Gen Cert.Spectrum Cert.Scalars Cert.RefOf Cert.Prefix
open scoped BigOperators

/-- The kernel's result where the windowed samples are real: eight frequencies of greatest power, summed. -/
theorem final_apply (m : (ℓ : Loc nD τ sig) → Buf (Elt Ideal) ℓ) (c : Dev nD) {X : FVec Ideal S128x32768x1 .f32}
    (hm : m ((c : Thread nD τ).loc main_arg0) = X) (hX : Finite X) (r a : Fin 128) (b : Fin 256) :
    ∃ S, IsTop 32768 (power (sample X r)) S ∧ S.card = 8 ∧
      final (F := Ideal) m c (ix3 r a b) = (((∑ k ∈ S, Real.sqrt (power (sample X r) k) * wave (256 * a.val + b.val) k) / 32768 : ℝ) : EReal) := by
  unfold final
  rw [V_v2, V_v3, V_v22, V_v34, V_v55, V_v57, V_v58, V_v60, V_v61, V_v63, hm, whole_apply _ _ _ _ _ _ _ _ _ _ rfl]
  refine rowOut_apply (y := sample X r) (fun i j => ?_) (fun i j => ?_) rooted a b
  · have hn : 256 * i.val + 2 * j.val < 32768 := by omega
    refine Eq.trans (congrArg₂ (fun u v : EReal => u * v) (evenSamples_apply X r i j ⟨256 * i.val + 2 * j.val, hn⟩ rfl)
      (window_apply (evens_apply i j) (by omega))) ?_
    exact sample_eq hX r ⟨256 * i.val + 2 * j.val, hn⟩
  · have hn : 256 * i.val + 2 * j.val + 1 < 32768 := by omega
    refine Eq.trans (congrArg₂ (fun u v : EReal => u * v) (oddSamples_apply X r i j ⟨256 * i.val + 2 * j.val + 1, hn⟩ rfl)
      (window_apply (odds_apply i j) (by omega))) ?_
    exact sample_eq hX r ⟨256 * i.val + 2 * j.val + 1, hn⟩
end Cert.RowOf
end
-- ==== Proof.Equal.lean ====
module
public import proofs.«01_k».proof.Proof.Pre
public import proofs.«01_k».proof.Proof.Final
@[expose] public section
noncomputable section
namespace Cert.EqualOf
open Idealize.ShloMosaic Idealize.ShloMosaic.TcCoe Idealize.SL.Sem Idealize.ShloMosaic.ValueIdx
open Cert.Spectrum Cert.RefOf
open scoped BigOperators

/-- A frequency of the lower half that stands for the same cosine. -/
def fold (k : ℕ) : ℕ := min k (32768 - k)

theorem fold_le (k : ℕ) : fold k ≤ 16384 := by
  unfold fold
  omega

theorem power_fold (y : ℕ → ℝ) {k : ℕ} (hk : k < 32768) : power y (fold k) = power y k := by
  unfold fold
  rcases le_total k (32768 - k) with h | h
  · rw [min_eq_left h]
  · rw [min_eq_right h, power_mirror y hk.le]

theorem wave_fold (n : ℕ) {k : ℕ} (hk : k < 32768) : wave n (fold k) = wave n k := by
  unfold fold
  rcases le_total k (32768 - k) with h | h
  · rw [min_eq_left h]
  · rw [min_eq_right h, wave_mirror n hk.le]

theorem magnitude_eq {X : FVec Ideal Cert.ReferenceIdeal.S128x32768x1 .f32} (hX : Finite X) (r : Fin 128) {i j : Fin 32768}
    (h : power (sample X r) i.val = power (sample X r) j.val) : magnitudes X (ix2 r i) = magnitudes X (ix2 r j) := by
  rw [magnitudes_apply hX, magnitudes_apply hX, h]

variable [Cert.Pre_eighth_is_one_frequency.Facts]

/-- Under the condition, any eight frequencies of greatest power give the reference's sum. -/
theorem sum_eq {X : FVec Ideal Cert.ReferenceIdeal.S128x32768x1 .f32} (h : Cert.Pre_eighth_is_one_frequency.fn (F := Ideal) X = fun _ => 1#1)
    (r : Fin 128) (n : ℕ) {S : Finset ℕ} (hS : IsTop 32768 (power (sample X r)) S) (hc : S.card = 8) :
    ∑ k ∈ S, Real.sqrt (power (sample X r) k) * wave n k = ∑ k ∈ top X r, Real.sqrt (power (sample X r) k) * wave n k := by
  have hX := Cert.PreOf.finite h
  have hT := top_isTop hX r
  refine sum_eq_of_isTop hS hT (hc.trans (top_card X r).symm) (fun i j e => by rw [e]) fun i j hi hiT hj _ e => ?_
  have hiN : i < 32768 := Finset.mem_range.mp (hS.1 hi)
  have hjN : j < 32768 := Finset.mem_range.mp (hT.1 hj)
  have h7 : (freq X r 7).val ∈ top X r := mem_top.mpr ⟨7, rfl⟩
  have h1 : power (sample X r) i ≤ power (sample X r) (freq X r 7).val := hT.2 _ h7 i hiN hiT
  have h2 : power (sample X r) (freq X r 7).val ≤ power (sample X r) j := by
    obtain ⟨q, rfl⟩ := mem_top.mp hj
    refine power_le_of hX r (TopOf.nth_le (fun k => magnitudes X (ix2 r k)) ?_)
    rw [Fin.le_def, Fin.val_castLE, Fin.val_castLE]
    have := q.isLt
    show q.val ≤ 7
    omega
  have hi7 : power (sample X r) i = power (sample X r) (freq X r 7).val := le_antisymm h1 (h2.trans e.ge)
  have hj7 : power (sample X r) j = power (sample X r) (freq X r 7).val := e.symm.trans hi7
  have key : ∀ k (hk : k < 32768), power (sample X r) k = power (sample X r) (freq X r 7).val →
      magnitudes X (ix2 r (⟨fold k, by have := fold_le k; omega⟩ : Fin 32768)) = values X (ix2 r (7 : Fin 8)) := by
    intro k hk ek
    rw [values_apply]
    exact magnitude_eq hX r ((power_fold _ hk).trans ek)
  have hf := Cert.PreOf.unique h r _ _ (fold_le i) (fold_le j) (key i hiN hi7) (key j hjN hj7)
  rw [← wave_fold n hiN, ← wave_fold n hjN, Fin.mk.inj_iff.mp hf]

/-- Under the condition the kernel's array and the reference's are one. -/
theorem final_eq (m : (ℓ : Loc Cert.KernelIdeal.nD Cert.KernelIdeal.τ Cert.KernelIdeal.sig) → Buf (Elt Ideal) ℓ) (c : Dev Cert.KernelIdeal.nD)
    {X : FVec Ideal Cert.ReferenceIdeal.S128x32768x1 .f32} (hm : m ((c : Thread Cert.KernelIdeal.nD Cert.KernelIdeal.τ).loc Cert.KernelIdeal.main_arg0) = X)
    (h : Cert.Pre_eighth_is_one_frequency.fn (F := Ideal) X = fun _ => 1#1) : Cert.RowOf.final (F := Ideal) m c = out X := by
  have hX := Cert.PreOf.finite h
  funext i
  rw [eq_ix3 i]
  obtain ⟨S, hS, hc, e⟩ := Cert.RowOf.final_apply m c hm hX (i 0) (i 1) (i 2)
  refine e.trans (Eq.trans ?_ (out_apply hX (i 0) (i 1) (i 2)).symm)
  exact congrArg (fun z : ℝ => ((z / 32768 : ℝ) : EReal)) (sum_eq h (i 0) _ hS hc)
end Cert.EqualOf
end
-- ==== Proof.Claims.lean ====
module
public import proofs.«01_k».proof.Defs
public import proofs.«01_k».proof.Proof.Equal
public import Idealize.ShloMosaic.Lib.Quiescent
@[expose] public section
noncomputable section
namespace Cert.Claims
open Idealize.ShloMosaic Idealize.ShloMosaic.TcCoe Idealize.SL.Sem Idealize.ShloMosaic.ValueIdx

/-- The reference's run ends with every semaphore counter at zero and its argument unchanged: it has no semaphores. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run _ _ _).mono (fun r h => ⟨fun c => (h c).2, sem_eq_zero_of_no_sems (by decide) r.2⟩)
    (Cert.ReferenceIdeal.Value.run (F := Ideal) m ρ)

/-- The named constant `π / 16384` is the one rewrite of the ideal program. -/
theorem preserves : Cert.preserves_Kernel_KernelIdeal :=
  IdealRules.named_const.statement _ _ _ _ _ rfl

variable [Cert.Pre_eighth_is_one_frequency.Facts]

/-- From memories that agree on the argument, and under the condition, kernel and reference end with one array. -/
theorem algebraic : Cert.algebraic_KernelIdeal_ReferenceIdeal_pre_eighth_is_one_frequency
    (hKernelIdeal := Cert.KernelIdeal.Gen.facts) (hReferenceIdeal := Cert.ReferenceIdeal.Gen.facts) := by
  intro m g m' g' hpre hagree
  refine ⟨fun c => Cert.RowOf.final (F := Ideal) m c, ?_, ?_⟩
  · refine (θ_run _ _ _).mono (fun r h c => ⟨(h c).1.trans (Cert.RowOf.arr_eq m c), (h c).2⟩)
      (Cert.KernelIdeal.Value.run_blocks (F := Ideal) m g)
  · refine (θ_run _ _ _).mono (fun r h c => ⟨(h c).1.trans ?_, (h c).2⟩) (Cert.ReferenceIdeal.Value.run (F := Ideal) m' g')
    refine (Cert.RefOf.res_eq m' c).trans ?_
    exact (congrArg Cert.RefOf.out (hagree c)).trans (Cert.EqualOf.final_eq m c rfl (hpre c)).symm
end Cert.Claims
end
-- ==== Proof.lean ====
/- The proof of every claim of Defs.lean: the frames of the three programs, the one named constant, and the equality
   of the kernel's array with the reference's under the condition that the eighth magnitude belongs to one frequency. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- All the claims, the stated facts of the programs first. -/
theorem claim : Cert.Claim :=
  ⟨Cert.Kernel.Gen.facts, Cert.KernelIdeal.Gen.facts, Cert.ReferenceIdeal.Gen.facts, Cert.PreOf.facts,
    fun m ρ _ => Cert.Kernel.Gen.frame m ρ,
    fun m ρ _ => Cert.KernelIdeal.Gen.frame m ρ,
    fun m ρ _ => Cert.KernelIdeal.Gen.frame m ρ,
    fun m ρ _ => Cert.Claims.reference_frame m ρ,
    fun m ρ _ => Cert.Claims.reference_frame m ρ,
    Cert.Claims.preserves,
    @Cert.Claims.algebraic Cert.PreOf.facts⟩

end Cert.Proof

end
